-- ==== Defs.lean ====
def Pre_Kernel [hPre_path_lengths : Cert.Pre_path_lengths.Facts] (m : (ℓ : Loc Cert.Kernel.nD Cert.Kernel.τ Cert.Kernel.sig) → Buf (Elt Bits) ℓ) : Prop :=
  ∀ c : Dev Cert.Kernel.nD,
    (Cert.Pre_path_lengths.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_path_lengths : Cert.Pre_path_lengths.Facts] (m : (ℓ : Loc Cert.KernelIdeal.nD Cert.KernelIdeal.τ Cert.KernelIdeal.sig) → Buf (Elt Ideal) ℓ) : Prop :=
  ∀ c : Dev Cert.KernelIdeal.nD,
    (Cert.Pre_path_lengths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_path_lengths [hPre_path_lengths : Cert.Pre_path_lengths.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_path_lengths.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_path_lengths : Cert.Pre_path_lengths.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_path_lengths : Cert.Pre_path_lengths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_path_lengths [hReferenceIdeal : Cert.ReferenceIdeal.Facts] [hPre_path_lengths : Cert.Pre_path_lengths.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_path_lengths m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_path_lengths : Cert.Pre_path_lengths.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_path_lengths : Cert.Pre_path_lengths.Facts),
    quiescent_Kernel (hKernel := hKernel) (hPre_path_lengths := hPre_path_lengths)
    ∧ quiescent_KernelIdeal (hKernelIdeal := hKernelIdeal) (hPre_path_lengths := hPre_path_lengths)
    ∧ quiescent_ReferenceIdeal (hReferenceIdeal := hReferenceIdeal)
    ∧ quiescent_ReferenceIdeal_pre_path_lengths (hReferenceIdeal := hReferenceIdeal) (hPre_path_lengths := hPre_path_lengths)
    ∧ preserves_Kernel_KernelIdeal
    ∧ algebraic_KernelIdeal_ReferenceIdeal (hKernelIdeal := hKernelIdeal) (hReferenceIdeal := hReferenceIdeal) (hPre_path_lengths := hPre_path_lengths)
-- ==== Pre_path_lengths.lean ====
abbrev S4096x256 : Shape := ⟨2, ![4096, 256]⟩
abbrev S4096x4096 : Shape := ⟨2, ![4096, 4096]⟩
abbrev S5 : Shape := ⟨1, ![5]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x256 .f32) (main_arg1 : IVec S4096x4096 32) (main_arg2 : FVec F S4096x4096 .f32) (main_arg3 : FVec F S5 .f32) : IVec S_ 1 :=
  let main_c : IVec S_ 32 := constantI S_ 32 0#32
  let main_v0 : IVec S4096x4096 32 := broadcastInDim S4096x4096 ![] bcast_S_S4096x4096 main_c
  let main_v1 : IVec S4096x4096 1 := cmpi .sge main_arg1 main_v0
  let main_c_0 : IVec S_ 32 := constantI S_ 32 16#32
  let main_v2 : IVec S4096x4096 32 := broadcastInDim S4096x4096 ![] bcast_S_S4096x4096 main_c_0
  let main_v3 : IVec S4096x4096 1 := cmpi .slt main_arg1 main_v2
  let main_v4 : IVec S4096x4096 1 := andi main_v1 main_v3
  let main_c_1 : IVec S_ 1 := constantI S_ 1 1#1
  let main_v5 : IVec S_ 1 := (fun x v => Host.reduce IntOp.andi x v reducesTo_S4096x4096_S_d0_1 h_S_) main_v4 main_c_1
  main_v5
-- ==== Kernel.lean ====
abbrev S4096x256 : Shape := ⟨2, ![4096, 256]⟩
abbrev S4096x4096 : Shape := ⟨2, ![4096, 4096]⟩
abbrev S5 : Shape := ⟨1, ![5]⟩
abbrev S_ : Shape := ⟨0, ![]⟩
abbrev S16 : Shape := ⟨1, ![16]⟩
abbrev S16777216 : Shape := ⟨1, ![16777216]⟩
abbrev S16384 : Shape := ⟨1, ![16384]⟩

abbrev nBuf : Table → Nat
  | .hbm => 11
  | .local .scVector .vmem => 4
  | _ => 0

abbrev bufTy : (tb : Table) → Fin (nBuf tb) → BufTy
  | .hbm, ⟨0, _⟩ => ⟨S4096x256, .f32⟩
  | .hbm, ⟨1, _⟩ => ⟨S4096x4096, .i32⟩
  | .hbm, ⟨2, _⟩ => ⟨S4096x4096, .f32⟩
  | .hbm, ⟨3, _⟩ => ⟨S5, .f32⟩
  | .hbm, ⟨4, _⟩ => ⟨S_, .i32⟩
  | .hbm, ⟨5, _⟩ => ⟨S_, .f32⟩
  | .hbm, ⟨6, _⟩ => ⟨S16, .f32⟩
  | .hbm, ⟨7, _⟩ => ⟨S16777216, .i32⟩
  | .hbm, ⟨8, _⟩ => ⟨S16777216, .f32⟩
  | .hbm, ⟨9, _⟩ => ⟨S16777216, .f32⟩
  | .hbm, ⟨10, _⟩ => ⟨S4096x4096, .f32⟩
  | .local .scVector .vmem, ⟨0, _⟩ => ⟨S16, .f32⟩
  | .local .scVector .vmem, ⟨1, _⟩ => ⟨S16384, .i32⟩
  | .local .scVector .vmem, ⟨2, _⟩ => ⟨S16384, .f32⟩
  | .local .scVector .vmem, ⟨3, _⟩ => ⟨S16384, .f32⟩
  | _, _ => ⟨S4096x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v0_scv : Ref sig .scVector := ⟨.hbm, 6, rfl⟩
abbrev main_v1_scv : Ref sig .scVector := ⟨.hbm, 7, rfl⟩
abbrev main_v2_scv : Ref sig .scVector := ⟨.hbm, 8, rfl⟩
abbrev main_v3_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v11 : IVec S16 32) : Prop :=
  (∀ a x, ((![v11] : Fin 1 → IVec S16 32) a x).toNat < S16.size a)
theorem k0_idx1_inb : ∀ (v11 : IVec S16 32) (k0_hw1 : k0_chk1 v11), ∀ a x, ((![v11] : Fin 1 → IVec S16 32) a x).toNat < S16.size a := fun v11 k0_hw1 => k0_hw1
@[reducible] def k0_t1_loop : Scf.Loop 32 :=
  let c0_i32_1 : BitVec 32 := 0#32
  let c32_i32 : BitVec 32 := 32#32
  let v14 : BitVec 32 := Scalar.addi c0_i32_1 c32_i32
  let c1_i32_2 : BitVec 32 := 1#32
  ⟨c0_i32_1, v14, c1_i32_2⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_1 : BitVec 32 := 0#32
  let c1_i32_2 : BitVec 32 := 1#32
  let arg10 : BitVec 32 := Scf.iv c0_i32_1 c1_i32_2 k0_t1
  let c16384_i32 : BitVec 32 := 16384#32
  let v15 : BitVec 32 := Scalar.muli arg10 c16384_i32
  let v16 : BitVec 32 := Scalar.addi v2 v15
  ![v16.toNat]
@[reducible] def k0_t2_loop : Scf.Loop 32 :=
  let c0_i32_5 : BitVec 32 := 0#32
  let c1024_i32 : BitVec 32 := 1024#32
  let v17 : BitVec 32 := Scalar.addi c0_i32_5 c1024_i32
  let c1_i32_6 : BitVec 32 := 1#32
  ⟨c0_i32_5, v17, c1_i32_6⟩
def k0_off2 (k0_t2 : Fin k0_t2_loop.trips) : Fin 1 → Nat :=
  let c0_i32_5 : BitVec 32 := 0#32
  let c1_i32_6 : BitVec 32 := 1#32
  let arg11 : BitVec 32 := Scf.iv c0_i32_5 c1_i32_6 k0_t2
  let c16_i32 : BitVec 32 := 16#32
  let v18 : BitVec 32 := Scalar.muli arg11 c16_i32
  let v19 : Index := Scalar.indexCast v18
  ![v19.toNat]

def k0_chk2 (v20 : IVec S16 32) : Prop :=
  (∀ a x, ((![v20] : Fin 1 → IVec S16 32) a x).toNat < S16.size a)
theorem k0_idx2_inb : ∀ (v20 : IVec S16 32) (k0_hw2 : k0_chk2 v20), ∀ a x, ((![v20] : Fin 1 → IVec S16 32) a x).toNat < S16.size a := fun v20 k0_hw2 => k0_hw2
def k0_off3 (k0_t2 : Fin k0_t2_loop.trips) : Fin 1 → Nat :=
  let c0_i32_5 : BitVec 32 := 0#32
  let c1_i32_6 : BitVec 32 := 1#32
  let arg11 : BitVec 32 := Scf.iv c0_i32_5 c1_i32_6 k0_t2
  let c16_i32 : BitVec 32 := 16#32
  let v18 : BitVec 32 := Scalar.muli arg11 c16_i32
  let v22 : Index := Scalar.indexCast v18
  ![v22.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x256 : Shape := ⟨2, ![4096, 256]⟩
abbrev S4096x4096 : Shape := ⟨2, ![4096, 4096]⟩
abbrev S5 : Shape := ⟨1, ![5]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .i32⟩
  | .hbm, ⟨2, _⟩ => ⟨S4096x4096, .f32⟩
  | .hbm, ⟨3, _⟩ => ⟨S5, .f32⟩
  | .hbm, ⟨4, _⟩ => ⟨S_, .i32⟩
  | .hbm, ⟨5, _⟩ => ⟨S4096x4096, .i32⟩
  | .hbm, ⟨6, _⟩ => ⟨S4096x4096, .i32⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S4096x4096, .i32⟩
  | .hbm, ⟨17, _⟩ => ⟨S4096x4096, .i32⟩
  | .hbm, ⟨18, _⟩ => ⟨S_, .i32⟩
  | .hbm, ⟨19, _⟩ => ⟨S4096x4096, .i32⟩
  | .hbm, ⟨20, _⟩ => ⟨S4096x4096, .i1⟩
  | .hbm, ⟨21, _⟩ => ⟨S_, .i32⟩
  | .hbm, ⟨22, _⟩ => ⟨S4096x4096, .i32⟩
  | .hbm, ⟨23, _⟩ => ⟨S4096x4096, .i1⟩
  | .hbm, ⟨24, _⟩ => ⟨S_, .i32⟩
  | .hbm, ⟨25, _⟩ => ⟨S_, .i1⟩
  | .hbm, ⟨26, _⟩ => ⟨S4096x4096, .i1⟩
  | .hbm, ⟨27, _⟩ => ⟨S4096x4096, .i1⟩
  | .hbm, ⟨28, _⟩ => ⟨S4096x4096, .i1⟩
  | .hbm, ⟨29, _⟩ => ⟨S4096x4096, .i32⟩
  | .hbm, ⟨30, _⟩ => ⟨S4096x4096, .i32⟩
  | .hbm, ⟨31, _⟩ => ⟨S4096x4096, .i32⟩
  | .hbm, ⟨32, _⟩ => ⟨S_, .i32⟩
  | .hbm, ⟨33, _⟩ => ⟨S4096x4096, .i32⟩
  | .hbm, ⟨34, _⟩ => ⟨S4096x4096, .i1⟩
  | .hbm, ⟨35, _⟩ => ⟨S_, .i32⟩
  | .hbm, ⟨36, _⟩ => ⟨S4096x4096, .i32⟩
  | .hbm, ⟨37, _⟩ => ⟨S4096x4096, .i32⟩
  | .hbm, ⟨38, _⟩ => ⟨S4096x4096, .i32⟩
  | .hbm, ⟨39, _⟩ => ⟨S4096x4096x1, .i32⟩
  | .hbm, ⟨40, _⟩ => ⟨S1, .i32⟩
  | .hbm, ⟨41, _⟩ => ⟨S_, .i32⟩
  | .hbm, ⟨42, _⟩ => ⟨S4096x4096x1, .i32⟩
  | .hbm, ⟨43, _⟩ => ⟨S4096x4096x1, .i1⟩
  | .hbm, ⟨44, _⟩ => ⟨S1x1x1, .i32⟩
  | .hbm, ⟨45, _⟩ => ⟨S4096x4096x1, .i32⟩
  | .hbm, ⟨46, _⟩ => ⟨S4096x4096x1, .i1⟩
  | .hbm, ⟨47, _⟩ => ⟨S4096x4096x1, .i1⟩
  | .hbm, ⟨48, _⟩ => ⟨S_, .i1⟩
  | .hbm, ⟨49, _⟩ => ⟨S4096x4096, .i1⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .i1⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S4096x4096, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v4 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v5 : Ref sig .tc := ⟨.hbm, 53, rfl⟩
abbrev main_cst : Ref sig .tc := ⟨.hbm, 54, rfl⟩
abbrev main_v6 : Ref sig .tc := ⟨.hbm, 55, rfl⟩
abbrev main_v7 : Ref sig .tc := ⟨.hbm, 56, rfl⟩
abbrev main_cst_2 : Ref sig .tc := ⟨.hbm, 57, rfl⟩
abbrev main_call2_v0 : Ref sig .tc := ⟨.hbm, 58, rfl⟩
abbrev main_v8 : Ref sig .tc := ⟨.hbm, 59, rfl⟩
abbrev main_v9 : Ref sig .tc := ⟨.hbm, 60, rfl⟩

abbrev nD : Nat := 1
abbrev τ : Topo := Topo.v7x

variable {F : FTy → Type} [FloatOps F]
-- ==== Proof.KernelIdeal.Setup.lean ====
/-
  The launch of the kernel: the program as the launch theorem sees it, the arrays the call works on, and what the call
  hands to each of the thirty-two tasks and takes back.

  Task `(c, i)` — subcore `i` of SparseCore `c` — is worker `2 i + c`. It reads the table and both inputs, each through one of
  thirty-two equal read shares, and owns the thirty-two consecutive chunks of 16384 words of the output that it writes. It gives
  those chunks back holding the values of one fixed function of the table and the inputs (`outF`), so that the chunks of all tasks
  join to the whole output at that function.

  Everything is generic in the float values. The module is written once; its copy for the idealized program differs in the
  namespace alone.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type}

/-! ## The program as the launch theorem sees it -/

/-- The labels of the program without the SparseCore call. -/
abbrev ΛP : Labels := Pipeline.Sig Λ₀ (Fin 0) fun p => (pcfgs (F := F) p).Adm
/-- The program's one SparseCore call. -/
abbrev K : SparseCore.Cfg τ sig (ΛP (F := F)) 1 := sc (F := F)
/-- What the labels stand for. -/
abbrev D [FloatOps F] : Defs nD τ sig (Elt F) (ΛP (F := F)) := Pipeline.defs pcfgs defs₀
/-- The kernel's loops need no variant: they are counted. -/
abbrev 𝒱₀ : Variants := Variants.none
/-- The same for the whole program. -/
abbrev 𝒱 : Variants := 𝒱₀.lift
/-- The variant every task starts at. -/
abbrev v₀ : 𝒱.V := Sum.inl none

/-- The handshake semaphores are distinct and never allocated by a body, and no buffer is shared among a SparseCore's tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

/-- The handshakes' rounds. -/
abbrev UH : Type := URounds (GSem nD τ sig) ℕ
/-- The rounds beside the copies' counters. -/
abbrev UU : Type := UH × Counters

local notation "𝕄" => MT nD τ sig (HIx 1) (Elt F) ℕ UU ℕ

/-- Where the rounds lie in the algebra. -/
abbrev EH : Emb UH (MT nD τ sig (HIx 1) (Elt F) ℕ UU ℕ) := embL

/-! ## The arrays -/

/-- The padded table, as a location of device `d`; the other arrays of the call follow. -/
abbrev tabLoc (d : Dev nD) : Loc nD τ sig := (SparseCore.T d).loc main_v0
/-- The flat path lengths. -/
abbrev npLoc (d : Dev nD) : Loc nD τ sig := (SparseCore.T d).loc main_v1
/-- The flat mask. -/
abbrev mkLoc (d : Dev nD) : Loc nD τ sig := (SparseCore.T d).loc main_v2
/-- The kernel's output. -/
abbrev outLoc (d : Dev nD) : Loc nD τ sig := (SparseCore.T d).loc main_v3

/-- The output is cut into 1024 chunks of 16384 consecutive words. -/
theorem hdiv : 1024 ∣ S16777216.size 0 := ⟨16384, by decide⟩
/-- Chunk `n` of the output, as a rectangle, -/
abbrev chunkRect (n : Fin 1024) : Rect S16777216 := Rect.part (s := S16777216) (a₀ := 0) hdiv n
/-- and as a set of positions. -/
abbrev chunk (n : Fin 1024) : Finset S16777216.Idx := (chunkRect n).set

/-- Worker `2 i + c`. The arguments in use are in range, so the remainder changes nothing, here and below. -/
def wid (c i : ℕ) : Fin 32 := ⟨(2 * i + c) % 32, Nat.mod_lt _ (by decide)⟩
/-- Chunk `t` of task `(c, i)`, among the 1024. -/
def chunkNo (c i t : ℕ) : Fin 1024 := ⟨(64 * i + 32 * c + t) % 1024, Nat.mod_lt _ (by decide)⟩

/-- One worker's read share of an array: one of the thirty-two leaves of the full share. -/
abbrev sh (c i : ℕ) : PosShare TreeShare := leaf 5 fullShare (wid c i)

/-! ## The values -/

section Values

/-- The table entry a word names. -/
def entry (w : BitVec 32) : S16.Idx := fun a => ⟨w.toNat % 16, lt_of_lt_of_eq (Nat.mod_lt _ (show 0 < 16 by decide)) (by fin_cases a; rfl)⟩

variable [FloatOps F]

/-- The kernel's rearranged table: entry `k` is the padded table's at the word the kernel computes for lane `k`. -/
def lutF (tab : Vec F S16 .f32) : Vec F S16 .f32 := fun j => tab (entry (k0_pay1 j))

/-- One output value: the rearranged table's entry named by a path length, times the mask's value there. -/
def outF (tab : Vec F S16 .f32) (np : IVec S16777216 32) (mk : Vec F S16777216 .f32) : Vec F S16777216 .f32 :=
  mulf (fun j => lutF tab (entry (np j)) : FVec F S16777216 .f32) mk

end Values

/-! ## What the handshakes carry -/

variable (m : (ℓ : Loc nD τ sig) → Buf (Elt F) ℓ) (ρ : Dev nD → PrngReg)
/- the contents the table and the two inputs have when the call starts -/
variable (tab : Dev nD → Vec F S16 .f32) (np : Dev nD → IVec S16777216 32) (mk : Dev nD → Vec F S16777216 .f32)

variable [FloatOps F]

/-- Chunk `t` of task `(c, i)` on device `d`, at the contents `f`. -/
abbrev outPts (d : Dev nD) (c i t : ℕ) (f : Buf (Elt F) (outLoc d)) : sProp 𝕄 := outLoc d ↦[chunk (chunkNo c i t)]{fullShare} f

/-- A task's read share of the table. -/
abbrev tabPts (d : Dev nD) (c i : ℕ) : sProp 𝕄 := tabLoc d ↦{sh c i} tab d
/-- The same of the path lengths, -/
abbrev npPts (d : Dev nD) (c i : ℕ) : sProp 𝕄 := npLoc d ↦{sh c i} np d
/-- and of the mask. -/
abbrev mkPts (d : Dev nD) (c i : ℕ) : sProp 𝕄 := mkLoc d ↦{sh c i} mk d

/-- What task `(c, i)` is handed: its read shares, and its chunks of the output at their launch contents. -/
def taskIn (d : Dev nD) (c i : ℕ) : sProp 𝕄 :=
  iprop(tabPts tab d c i ∗ npPts np d c i ∗ mkPts mk d c i ∗ bigSep Finset.univ fun t : Fin 32 => outPts d c i t.val (m (outLoc d)))

/-- What it gives back: its chunks of the output at `outF`. -/
def taskOut (d : Dev nD) (c i : ℕ) : sProp 𝕄 :=
  bigSep Finset.univ fun t : Fin 32 => outPts d c i t.val (outF (tab d) (np d) (mk d))

/-- What a task is handed may be kept in an invariant, -/
instance taskIn_storable (d : Dev nD) (c i : ℕ) : BI.Storable (upEmb : UEmb _ 𝕄) (taskIn m tab np mk d c i) := by
  unfold taskIn; infer_instance
/-- and so may what it gives back. -/
instance taskOut_storable (d : Dev nD) (c i : ℕ) : BI.Storable (upEmb : UEmb _ 𝕄) (taskOut (F := F) tab np mk d c i) := by
  unfold taskOut; infer_instance

/-- The call's payloads: a SparseCore is handed what its sixteen tasks are, each task its part, and the results come back
    the same way. The kernel's proof consumes nothing else of the launch's. -/
def P : (K (F := F)).Pay (nD := nD) (Val := Elt F) (Name := ℕ) (U := UU) where
  st := fun _ d c => bigSep Finset.univ fun i : Fin 16 => taskIn m tab np mk d c.val i.val
  dn := fun _ d c => bigSep Finset.univ fun i : Fin 16 => taskOut tab np mk d c.val i.val
  go := fun _ d c i => taskIn m tab np mk d c.val i.val
  td := fun _ d c i => taskOut tab np mk d c.val i.val
  x := fun _ _ => iprop(emp)

/-- So may all that the call's handshakes carry. -/
instance P_storable : (P (F := F) m tab np mk).IsStorable where
  st _ d c := by unfold P; infer_instance
  dn _ d c := by unfold P; infer_instance
  go _ _ _ _ := by unfold P; infer_instance
  td _ _ _ _ := by unfold P; infer_instance

/-- A SparseCore's share of the call is dealt to its tasks as it stands, and their results are its result. -/
theorem vecSplit : (K (F := F)).VecSplit' (P m tab np mk) 0 := by
  intro d c
  show (bigSep Finset.univ fun i : Fin 16 => taskIn m tab np mk d c.val i.val) ⊢ |={Set.univ}=> iprop(
    (bigSep Finset.univ fun i : Fin 16 => taskIn m tab np mk d c.val i.val)
    ∗ ((bigSep Finset.univ fun i : Fin 16 => taskOut tab np mk d c.val i.val)
        -∗ bigSep Finset.univ fun i : Fin 16 => taskOut tab np mk d c.val i.val))
  iintro H; imodintro
  isplitl [H]; · iexact H
  iintro H; iexact H

end Cert.KernelIdeal.Run

end
-- ==== Proof.KernelIdeal.Task.lean ====
/-
  One task of the kernel. It fetches the table and rearranges it (`table_value`), then makes thirty-two trips: each fetches a chunk
  of the path lengths and of the mask, computes the products sixteen at a time (`trip2`), and copies them out (`trip1`). `tile_body`
  states the whole: the task's chunks of the output end at `outF`, and its semaphores at zero.
-/
module

public import proofs.«01_k».proof.Proof.KernelIdeal.Setup

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "tabW" => (Memref.whole Cert.KernelIdeal.main_v0_scv : Memref Cert.KernelIdeal.sig Kind.scVector Space.hbm Cert.KernelIdeal.S16 EltTy.f32)
local notation "npW" => (Memref.whole Cert.KernelIdeal.main_v1_scv : Memref Cert.KernelIdeal.sig Kind.scVector Space.hbm Cert.KernelIdeal.S16777216 EltTy.i32)
local notation "mkW" => (Memref.whole Cert.KernelIdeal.main_v2_scv : Memref Cert.KernelIdeal.sig Kind.scVector Space.hbm Cert.KernelIdeal.S16777216 EltTy.f32)
local notation "outW" => (Memref.whole Cert.KernelIdeal.main_v3_scv : Memref Cert.KernelIdeal.sig Kind.scVector Space.hbm Cert.KernelIdeal.S16777216 EltTy.f32)
local notation "sT" => (Memref.whole Cert.KernelIdeal.cc0_scratch0 : Memref Cert.KernelIdeal.sig Kind.scVector Space.vmem Cert.KernelIdeal.S16 EltTy.f32)
local notation "sN" => (Memref.whole Cert.KernelIdeal.cc0_scratch1 : Memref Cert.KernelIdeal.sig Kind.scVector Space.vmem Cert.KernelIdeal.S16384 EltTy.i32)
local notation "sM" => (Memref.whole Cert.KernelIdeal.cc0_scratch2 : Memref Cert.KernelIdeal.sig Kind.scVector Space.vmem Cert.KernelIdeal.S16384 EltTy.f32)
local notation "sO" => (Memref.whole Cert.KernelIdeal.cc0_scratch3 : Memref Cert.KernelIdeal.sig Kind.scVector Space.vmem Cert.KernelIdeal.S16384 EltTy.f32)

variable (m : (ℓ : Loc nD τ sig) → Buf (Elt F) ℓ) (ρ : Dev nD → PrngReg)
variable (tab : Dev nD → Vec F S16 .f32) (np : Dev nD → IVec S16777216 32) (mk : Dev nD → Vec F S16777216 .f32)

variable [FloatOps F]

section Tile

variable (d : Dev nD) (L : grid0.Coords)

/-- The SparseCore of a task, -/
abbrev cV (L : grid0.Coords) : Fin τ.nSC := (L 0).castLE hcore0
/-- its subcore, -/
abbrev jV (L : grid0.Coords) : Fin τ.nSub := (L 1).castLE hsub0
/-- and the thread that runs it. -/
abbrev thr : Thread nD τ := V d (cV L) (jV L)

/-- The chunk that trip `t` of task `L` moves, as the kernel slices it. -/
abbrev chunkK (t : Fin k0_t1_loop.trips) : Rect S16777216 := Rect.unit (s := S16777216) (k0_off1 L t) S16384.size (k0_off1_inb L t)
/-- The sixteen words that trip `k` of the inner loop reads of the mask and writes of the products, -/
abbrev laneK (k : Fin k0_t2_loop.trips) : Rect S16384 := Rect.unit (s := S16384) (k0_off3 k) S16.size (k0_off3_inb k)
/-- and those it reads of the path lengths. -/
abbrev laneN (k : Fin k0_t2_loop.trips) : Rect S16384 := Rect.unit (s := S16384) (k0_off2 k) S16.size (k0_off2_inb k)

/-- The products of one chunk. -/
def prodF (lut : Vec F S16 .f32) (n : IVec S16384 32) (k : Vec F S16384 .f32) : Vec F S16384 .f32 :=
  mulf (fun j => lut (entry (n j)) : FVec F S16384 .f32) k

omit [FloatOps F] in
/-- A word below sixteen names the entry of that number. -/
theorem entry_eq (w : BitVec 32) (h : w.toNat < 16) (z : S16.Idx) (hz : (z 0).val = w.toNat) : entry w = z := by
  funext a
  obtain rfl : a = 0 := Subsingleton.elim _ _
  exact Fin.ext ((Nat.mod_eq_of_lt h).trans hz.symm)

omit [FloatOps F] in
/-- The path lengths are read where the products are written. -/
theorem laneN_eq (t : Fin k0_t2_loop.trips) (x : S16.Idx) : (laneN t).toLoadRect.idx x = (laneK t).emb x := by
  funext a
  apply Fin.ext
  show k0_off2 t a + 1 * (x a).val = k0_off3 t a + 1 * (x a).val
  rw [k0_off2_eq, k0_off3_eq]

/-- After one trip's store the first `16 (t + 1)` products are in place, given that the first `16 t` were. -/
theorem trip2_value (lut : Vec F S16 .f32) (n : IVec S16384 32) (k g : Vec F S16384 .f32) (hn : ∀ j, (n j).toNat < 16) (t : Fin k0_t2_loop.trips)
    (hg : ∀ j : S16384.Idx, (j 0).val < 16 * t.val → g j = prodF lut n k j)
    (h : ∀ a x, ((![(sN).view.readAt (Elt F) (laneN t).toLoadRect n] : Fin 1 → IVec S16 32) a x).toNat < S16.size a) :
    ∀ j : S16384.Idx, (j 0).val < 16 * (t.val + 1) →
      ((sO).access (laneK t)).write (Elt F) g
        (k0_pay2 (loadIdx (((sT).access (Rect.whole S16)).read (Elt F) lut) ![(sN).view.readAt (Elt F) (laneN t).toLoadRect n] h)
          ((sM).view.readAt (Elt F) (laneK t).toLoadRect k)) Finset.univ j = prodF lut n k j := by
  intro j hj
  by_cases hlt : (j 0).val < 16 * t.val
  · refine (View.write_of_not_mem _ _ _ ?_).trans (hg j hlt)
    intro hmem
    obtain ⟨x, -, hx⟩ := Finset.mem_map.mp hmem
    have e : k0_off3 t 0 + 1 * (x 0).val = (j 0).val := congrArg (fun z : S16384.Idx => (z 0).val) hx
    rw [k0_off3_eq] at e
    change 16 * t.val + 1 * (x 0).val = (j 0).val at e
    omega
  · let x : S16.Idx := fun a => ⟨(j 0).val - 16 * t.val, by fin_cases a; show _ < 16; omega⟩
    have hx : (laneK t).emb x = j := by
      funext a
      obtain rfl : a = 0 := Subsingleton.elim _ _
      apply Fin.ext
      show k0_off3 t 0 + 1 * ((j 0).val - 16 * t.val) = (j 0).val
      rw [k0_off3_eq]
      show 16 * t.val + 1 * ((j 0).val - 16 * t.val) = (j 0).val
      omega
    have e := View.write_emb_of_mem (v := (sO).access (laneK t)) g
      (k0_pay2 (loadIdx (((sT).access (Rect.whole S16)).read (Elt F) lut) ![(sN).view.readAt (Elt F) (laneN t).toLoadRect n] h)
          ((sM).view.readAt (Elt F) (laneK t).toLoadRect k)) (Finset.mem_univ x)
    have hx' : ((sO).access (laneK t)).emb x = j := hx
    rw [hx'] at e
    refine e.trans ?_
    have hN : (sN).view.readAt (Elt F) (laneN t).toLoadRect n x = n j := by
      rw [View.readAt_apply, laneN_eq, hx]; rfl
    have hM : (sM).view.readAt (Elt F) (laneK t).toLoadRect k x = k j := by
      rw [View.readAt_apply]; exact congrArg k hx
    have hT : loadIdx (((sT).access (Rect.whole S16)).read (Elt F) lut) ![(sN).view.readAt (Elt F) (laneN t).toLoadRect n] h x = lut (entry (n j)) := by
      rw [entry_eq (n j) (hn j) ((Rect.whole S16).emb (idxAt ![(sN).view.readAt (Elt F) (laneN t).toLoadRect n] h x)) ?_]
      · rfl
      · show 0 + 1 * ((sN).view.readAt (Elt F) (laneN t).toLoadRect n x).toNat = (n j).toNat
        rw [hN]; omega
    show FloatOps.mulf _ _ = FloatOps.mulf _ _
    rw [hT, hM]

/-- The inner loop's invariant. -/
def inv2 (lut : Vec F S16 .f32) (n : IVec S16384 32) (k : Vec F S16384 .f32) (t : ℕ) (_ : PUnit) : sProp 𝕄 :=
  iprop(((sT).view.loc (thr d L) ↦{fullShare} lut) ∗ ((sN).view.loc (thr d L) ↦{fullShare} n) ∗ ((sM).view.loc (thr d L) ↦{fullShare} k)
    ∗ ∃ g : Vec F S16384 .f32, ⌜∀ j : S16384.Idx, (j 0).val < 16 * t → g j = prodF lut n k j⌝ ∗ ((sO).view.loc (thr d L) ↦{fullShare} g))

set_option maxHeartbeats 4000000 in
/-- A trip of the inner loop keeps its invariant: sixteen more products are in place. -/
theorem trip2 (lut : Vec F S16 .f32) (n : IVec S16384 32) (k : Vec F S16384 .f32) (hn : ∀ j, (n j).toNat < 16) (t : Fin k0_t2_loop.trips) :
    inv2 (F := F) d L lut n k t.val ⟨⟩ ⊢ wp frame (wpE (defs₀ (F := F)) 𝒱₀ (thr d L) none) Set.univ
      (k0_t2_body L tabW (Memref.isWhole_whole _) npW (Memref.isWhole_whole _) mkW (Memref.isWhole_whole _) outW (Memref.isWhole_whole _)
        sT (Memref.isWhole_whole _) sN (Memref.isWhole_whole _) sM (Memref.isWhole_whole _) sO (Memref.isWhole_whole _) cc0_scoped0 cc0_scoped1 cc0_scoped2 cc0_scoped3 t ⟨⟩)
      fun _ => inv2 (F := F) d L lut n k (t.val + 1) ⟨⟩ := by
  have hchk : k0_chk2 ((sN).view.readAt (Elt F) (laneN t).toLoadRect n) := by
    intro a x
    obtain rfl : a = 0 := Subsingleton.elim _ _
    show ((sN).view.readAt (Elt F) (laneN t).toLoadRect n x).toNat < 16
    simp only [View.readAt_apply, Memref.view_whole, View.read_whole]
    exact hn _
  unfold k0_t2_body inv2
  simp only [Prog.lift, Prog.bind_op, Prog.bind_ret, Prog.pure_eq_ret]
  iintro ⟨HT, HN, HM, %g, %hg, HO⟩
  iapply (wp_load 𝒱₀ (thr d L) none Set.univ (m := sN) (S := Finset.univ) (Finset.subset_univ _)) $$ HN; iintro HN
  rw [wp_assume_of _ _ _ _ hchk]
  iapply (SparseCore.wp_vectorLoadIdx 𝒱₀ (thr d L) none Set.univ (base := sT) (S := Finset.univ) (q := fullShare) (Finset.subset_univ _)) $$ HT; iintro HT
  iapply (wp_load 𝒱₀ (thr d L) none Set.univ (m := sM) (S := Finset.univ) (Finset.subset_univ _)) $$ HM; iintro HM
  iapply (wp_load 𝒱₀ (thr d L) none Set.univ (m := sO) (S := Finset.univ) (Finset.subset_univ _)) $$ HO; iintro HO
  iapply (wp_store 𝒱₀ (thr d L) none Set.univ (m := sO) (r := laneK t) (Mk := Finset.univ) (S := Finset.univ) (Finset.subset_univ _)) $$ HO; iintro HO
  rw [wp_ret]; imodintro
  isplitl [HT]; · iexact HT
  isplitl [HN]; · iexact HN
  isplitl [HM]; · iexact HM
  iexists _
  isplitr
  rotate_left
  · iexact HO
  ipureintro
  exact trip2_value lut n k g hn t hg _

/-- The chunk of the output that trip `t` writes, as the kernel's memref. -/
abbrev outK (t : Fin k0_t1_loop.trips) : Memref sig .scVector .hbm S16384 .f32 := (outW).slice (chunkK L t) (fun _ => rfl)

omit [FloatOps F] in
/-- The outer loop makes thirty-two trips, one for each chunk, -/
theorem trips1 : k0_t1_loop.trips = 32 := by decide
omit [FloatOps F] in
/-- and the inner loop 1024, one for each sixteen words. -/
theorem trips2 : k0_t2_loop.trips = 1024 := by decide

omit [FloatOps F] in
/-- The rectangle the kernel slices is one of the 1024 chunks. -/
theorem chunkK_eq (t : Fin k0_t1_loop.trips) : chunkK L t = chunkRect (chunkNo (L 0).val (L 1).val t.val) := by
  have h0 : (L 0).val < 2 := (L 0).isLt
  have h1 : (L 1).val < 16 := (L 1).isLt
  have ht : t.val < 32 := lt_of_lt_of_eq t.isLt trips1
  unfold chunkK chunkRect Rect.part Rect.block
  congr 1 <;> funext a <;> obtain rfl : a = 0 := Subsingleton.elim _ _
  case e_size => show 16384 = 16777216 / 1024; decide
  · rw [k0_off1_eq]
    show 1048576 * (L 1).val + 524288 * (L 0).val + 16384 * t.val = (chunkNo (L 0).val (L 1).val t.val).val * (16777216 / 1024)
    show _ = ((64 * (L 1).val + 32 * (L 0).val + t.val) % 1024) * 16384
    omega

omit [FloatOps F] in
/-- So its memref covers that chunk's positions, -/
theorem set_outK (t : Fin k0_t1_loop.trips) : (outK L t).view.set = chunk (chunkNo (L 0).val (L 1).val t.val) := by
  refine (View.set_slice_whole _ _).trans ?_
  rw [chunkK_eq]

omit [FloatOps F] in
/-- and owning it is owning the chunk. -/
theorem pts_outK (t : Fin k0_t1_loop.trips) (f : Buf (Elt F) (outLoc d)) :
    ((outK L t).view.loc (thr d L) ↦[(outK L t).view.set]{fullShare} f : sProp 𝕄) = outPts d (L 0).val (L 1).val t.val f := by
  rw [set_outK]

/-- The output's chunks before trip `t`: the earlier ones done, the others as they were. -/
def outDone (t : ℕ) : sProp 𝕄 :=
  bigSep Finset.univ fun s : Fin 32 => outPts d (L 0).val (L 1).val s.val (if s.val < t then outF (tab d) (np d) (mk d) else m (outLoc d))

/-- Trip `t`'s chunk done beside the others as they were before the trip: the chunks after it. -/
theorem outDone_succ (t : ℕ) (ht : t < 32) :
    iprop(outPts d (L 0).val (L 1).val t (outF (tab d) (np d) (mk d))
      ∗ bigSep (Finset.univ.erase (⟨t, ht⟩ : Fin 32)) fun s : Fin 32 => outPts d (L 0).val (L 1).val s.val (if s.val < t then outF (tab d) (np d) (mk d) else m (outLoc d)))
    = (outDone m tab np mk d L (t + 1) : sProp 𝕄) := by
  unfold outDone
  rw [SparseCore.bigSep_erase' (Finset.mem_univ (⟨t, ht⟩ : Fin 32))]
  refine congrArg₂ BIBase.sep (congrArg (outPts d (L 0).val (L 1).val t) (if_pos (Nat.lt_succ_self t)).symm) (bigSep_congr fun s hs => ?_)
  have hne : s.val ≠ t := fun e => (Finset.mem_erase.mp hs).1 (Fin.ext e)
  refine congrArg (outPts d (L 0).val (L 1).val s.val) ?_
  by_cases h : s.val < t
  · rw [if_pos h, if_pos (by omega)]
  · rw [if_neg h, if_neg (by omega)]

/-- Before the first trip every chunk is as it was, -/
theorem outDone_zero :
    (bigSep Finset.univ fun t : Fin 32 => outPts d (L 0).val (L 1).val t.val (m (outLoc d)) : sProp 𝕄) = outDone m tab np mk d L 0 :=
  bigSep_congr fun s _ => congrArg (outPts d (L 0).val (L 1).val s.val) (if_neg (Nat.not_lt_zero _)).symm

/-- and after the last every chunk is done. -/
theorem outDone_all : (outDone m tab np mk d L (Scf.trips k0_t1_loop.lb k0_t1_loop.ub k0_t1_loop.st) : sProp 𝕄) = taskOut tab np mk d (L 0).val (L 1).val := by
  rw [show Scf.trips k0_t1_loop.lb k0_t1_loop.ub k0_t1_loop.st = 32 from trips1]
  exact bigSep_congr fun s _ => congrArg (outPts d (L 0).val (L 1).val s.val) (if_pos s.isLt)

/-- The chunk of the path lengths that trip `t` fetches. -/
abbrev npC (t : Fin k0_t1_loop.trips) : IVec S16384 32 := fun j => np d ((chunkK L t).emb j)
/-- The same of the mask. -/
abbrev mkC (t : Fin k0_t1_loop.trips) : Vec F S16384 .f32 := fun j => mk d ((chunkK L t).emb j)

/-- A chunk written whole holds `outF` there, whatever the output held before. -/
theorem chunk_value (t : Fin k0_t1_loop.trips) (f : Buf (Elt F) (outLoc d)) (g : Vec F S16384 .f32)
    (hg : ∀ j, g j = prodF (lutF (tab d)) (npC np d L t) (mkC mk d L t) j) (w : S16384.Idx → Elt F .f32) (hw : w = g) :
    ((outK L t).view.loc (thr d L) ↦[(outK L t).view.set]{fullShare} (outK L t).view.writes (Elt F) f [⟨Rect.whole S16384, w⟩] : sProp 𝕄)
      = outPts d (L 0).val (L 1).val t.val (outF (tab d) (np d) (mk d)) := by
  subst hw
  rw [← pts_outK]
  refine pointsTo_congr fun i hi => ?_
  obtain ⟨x, -, rfl⟩ := Finset.mem_map.mp hi
  have e := View.read_writes_cons_emb (v := (outK L t).view) (f := f) (Rect.whole S16384) w [] x
  rw [Rect.emb_whole_apply] at e
  have e' := ((View.read_apply (v := (outK L t).view) (Val := Elt F) ((outK L t).view.writes (Elt F) f [⟨Rect.whole S16384, w⟩]) x).trans (cast_eq _ _)).symm.trans e
  refine e'.trans ((hg x).trans ?_)
  show FloatOps.mulf _ _ = FloatOps.mulf _ _
  rfl

/-- The outer loop's invariant. -/
def inv1 (O : CellTallies nD τ sig (HIx 1)) (W : Waits sig (HIx 1)) (t : ℕ) (_ : PUnit) : sProp 𝕄 :=
  iprop(Transfers.MayWaits (thr d L) (none : HIx 1) O
    ∗ ((sT).view.loc (thr d L) ↦{fullShare} lutF (tab d))
    ∗ (∃ f, (sN).view.loc (thr d L) ↦{fullShare} f) ∗ (∃ f, (sM).view.loc (thr d L) ↦{fullShare} f) ∗ (∃ f, (sO).view.loc (thr d L) ↦{fullShare} f)
    ∗ ((npW).view.loc (thr d L) ↦{sh (L 0).val (L 1).val} np d) ∗ ((mkW).view.loc (thr d L) ↦{sh (L 0).val (L 1).val} mk d)
    ∗ outDone m tab np mk d L t
    ∗ semVal (thr d L, SemLoc.dma cc0_scoped1.sem) 0 ∗ semVal (thr d L, SemLoc.dma cc0_scoped2.sem) 0 ∗ semVal (thr d L, SemLoc.dma cc0_scoped3.sem) 0
    ∗ ∃ W', ⌜∀ p ∈ W', p ∈ W ∨ p.2 = none⌝ ∗ owes (thr d L) O W')

set_option maxHeartbeats 4000000 in
/-- A trip of the outer loop keeps its invariant: one more chunk of the output is done. -/
theorem trip1 (hnp : ∀ j, (np d j).toNat < 16) (O : CellTallies nD τ sig (HIx 1)) (W : Waits sig (HIx 1)) (t : Fin k0_t1_loop.trips) :
    inv1 m tab np mk d L O W t.val ⟨⟩ ⊢ wp frame (wpE (defs₀ (F := F)) 𝒱₀ (thr d L) none) Set.univ
      (k0_t1_body L tabW (Memref.isWhole_whole _) npW (Memref.isWhole_whole _) mkW (Memref.isWhole_whole _) outW (Memref.isWhole_whole _)
        sT (Memref.isWhole_whole _) sN (Memref.isWhole_whole _) sM (Memref.isWhole_whole _) sO (Memref.isWhole_whole _) cc0_scoped0 cc0_scoped1 cc0_scoped2 cc0_scoped3 t ⟨⟩)
      fun _ => inv1 m tab np mk d L O W (t.val + 1) ⟨⟩ := by
  have ht : t.val < 32 := lt_of_lt_of_eq t.isLt trips1
  unfold k0_t1_body inv1
  iintro ⟨Hmw, HT, ⟨%fn, HN⟩, ⟨%fm, HM⟩, ⟨%fo, HO⟩, Hnp, Hmk, Hout, Hs1, Hs2, Hs3, %W', %hW', Hw⟩
  unfold outDone
  ihave Hout' := (Entails.of_eq (SparseCore.bigSep_erase' (Finset.mem_univ (⟨t.val, ht⟩ : Fin 32)))) $$ Hout
  icases Hout' with ⟨Hc, Hrest⟩
  ihave Hc' := (Entails.of_eq (pts_outK (F := F) d L t _).symm) $$ Hc
  sl_exec (disch := exact View.amount_pos _ _ (show 0 < S16384.numel by decide))
  ihave HN' := (Entails.of_eq (show _ = ((sN).view.loc (thr d L) ↦{fullShare} npC np d L t : sProp 𝕄) by rw [View.write_whole_univ]; rfl)) $$ HN
  ihave HM' := (Entails.of_eq (show _ = ((sM).view.loc (thr d L) ↦{fullShare} mkC mk d L t : sProp 𝕄) by rw [View.write_whole_univ]; rfl)) $$ HM
  sl_for (inv2 (F := F) d L (lutF (tab d)) (npC np d L t) (mkC mk d L t)) $$ [HT HN' HM' HO]
  case region => exact fun k _ => trip2 d L _ _ _ (fun j => hnp _) k
  · unfold inv2
    isplitl [HT]; · iexact HT
    isplitl [HN']; · iexact HN'
    isplitl [HM']; · iexact HM'
    iexists fo; isplitr
    · ipureintro; exact fun j hj => absurd hj (by omega)
    · iexact HO
  iintro %_ HI
  unfold inv2
  icases HI with ⟨HT, HN, HM, %g, %hg, HO⟩
  sl_exec (disch := exact View.amount_pos _ _ (show 0 < S16384.numel by decide))
  sl_step
  have hg' : ∀ j, g j = prodF (lutF (tab d)) (npC np d L t) (mkC mk d L t) j := fun j => hg j (by
    have e : Scf.trips k0_t2_loop.lb k0_t2_loop.ub k0_t2_loop.st = 1024 := trips2
    have hj : (j 0).val < 16384 := (j 0).isLt
    rw [e]; omega)
  ihave Hc := (Entails.of_eq (chunk_value tab np mk d L t _ g hg' _ (by rfl))) $$ Hc'
  isplitl [Hmw]; · iexact Hmw
  isplitl [HT]; · iexact HT
  isplitl [HN]; · iexists _; iexact HN
  isplitl [HM]; · iexists _; iexact HM
  isplitl [HO]; · iexists _; iexact HO
  isplitl [Hnp]; · iexact Hnp
  isplitl [Hmk]; · iexact Hmk
  isplitl [Hc Hrest]
  · iapply (Entails.of_eq ((outDone_succ m tab np mk d L t.val ht).trans (by unfold outDone; rfl))) $$ [Hc Hrest]
    isplitl [Hc]; · iexact Hc
    iexact Hrest
  isplitl [Hs1]; · iexact Hs1
  isplitl [Hs2]; · iexact Hs2
  isplitl [Hs3]; · iexact Hs3
  iexists _; isplitr
  rotate_left
  · iexact Hw
  ipureintro
  intro p hp
  rcases Finset.mem_insert.mp hp with rfl | hp
  · exact .inr rfl
  rcases Finset.mem_insert.mp hp with rfl | hp
  · exact .inr rfl
  rcases Finset.mem_insert.mp hp with rfl | hp
  · exact .inr rfl
  · exact hW' p hp

/-! ## A task's own semaphores and scratch buffers -/

/-- A semaphore of the task's subcore. -/
abbrev semC (s : DmaSems sig S_) : GSem nD τ sig := (thr d L, SemLoc.dma s.sem)

/-- The four semaphores of the kernel's copies. -/
def semSet : Finset (GSem nD τ sig) := {semC d L cc0_scoped0, semC d L cc0_scoped1, semC d L cc0_scoped2, semC d L cc0_scoped3}

/-- The four scratch buffers. -/
def bufSet : Finset (DevRef τ sig) :=
  {(thr d L).2.devRef cc0_scratch0, (thr d L).2.devRef cc0_scratch1, (thr d L).2.devRef cc0_scratch2, (thr d L).2.devRef cc0_scratch3}

omit [FloatOps F] in
/-- Different semaphores of one subcore are different, -/
theorem semC_ne {s s' : DmaSems sig S_} (h : (SemLoc.dma s.sem : SemLoc sig) ≠ SemLoc.dma s'.sem) : semC d L s ≠ semC d L s' :=
  fun e => h (Prod.mk.inj e).2

omit [FloatOps F] in
/-- and so are different buffers. -/
theorem devRef_ne {b b' : Ref sig .scVector} (h : b ≠ b') : (thr d L).2.devRef b ≠ (thr d L).2.devRef b' :=
  fun e => h (Proc.devRef_injective _ e)

omit [FloatOps F] in
/-- The subcore's own semaphores, at zero: the four of the kernel's copies and the rest. -/
theorem own_sems : (ownSems0 (thr d L) : sProp 𝕄)
    = iprop((semVal (semC d L cc0_scoped0) 0 ∗ semVal (semC d L cc0_scoped1) 0 ∗ semVal (semC d L cc0_scoped2) 0 ∗ semVal (semC d L cc0_scoped3) 0)
        ∗ bigSep (ownCells (thr d L) \ semSet d L) fun g => semVal g 0) := by
  have hsub : semSet d L ⊆ ownCells (thr d L) := by
    intro g hg
    simp only [semSet, Finset.mem_insert, Finset.mem_singleton] at hg
    refine mem_ownCells.mpr ?_
    rcases hg with rfl | rfl | rfl | rfl
    · exact ⟨rfl, show (SemLoc.dma cc0_scoped0.sem : SemLoc sig).isScoped .scVector = true by decide⟩
    · exact ⟨rfl, show (SemLoc.dma cc0_scoped1.sem : SemLoc sig).isScoped .scVector = true by decide⟩
    · exact ⟨rfl, show (SemLoc.dma cc0_scoped2.sem : SemLoc sig).isScoped .scVector = true by decide⟩
    · exact ⟨rfl, show (SemLoc.dma cc0_scoped3.sem : SemLoc sig).isScoped .scVector = true by decide⟩
  unfold SparseCore.Cfg.ownSems0
  rw [SparseCore.bigSep_sdiff_split' hsub]
  congr 1
  unfold semSet
  rw [SparseCore.bigSep_insert', SparseCore.bigSep_insert', SparseCore.bigSep_insert', bigSep_singleton]
  · simp only [Finset.mem_singleton]; exact semC_ne d L (by decide)
  · simp only [Finset.mem_insert, Finset.mem_singleton, not_or]; exact ⟨semC_ne d L (by decide), semC_ne d L (by decide)⟩
  · simp only [Finset.mem_insert, Finset.mem_singleton, not_or]; exact ⟨semC_ne d L (by decide), semC_ne d L (by decide), semC_ne d L (by decide)⟩

omit [FloatOps F] in
/-- The subcore's own buffers, at any contents: the four scratch buffers and the rest. -/
theorem own_bufs : (ownBufs (thr d L) : sProp 𝕄)
    = iprop(((∃ f, (sT).view.loc (thr d L) ↦{fullShare} f) ∗ (∃ f, (sN).view.loc (thr d L) ↦{fullShare} f)
          ∗ (∃ f, (sM).view.loc (thr d L) ↦{fullShare} f) ∗ (∃ f, (sO).view.loc (thr d L) ↦{fullShare} f))
        ∗ bigSep (ownRefs (τ := τ) (thr d L).2 \ bufSet d L) fun b => iprop(∃ f, ((d, b) : Loc nD τ sig) ↦{fullShare} f)) := by
  have hsub : bufSet d L ⊆ ownRefs (τ := τ) (thr d L).2 := by
    intro b hb
    simp only [bufSet, Finset.mem_insert, Finset.mem_singleton] at hb
    rcases hb with rfl | rfl | rfl | rfl <;> exact SparseCore.Cfg.mem_ownRefs_of_owner rfl
  unfold SparseCore.Cfg.ownBufs
  refine (SparseCore.bigSep_sdiff_split' hsub).trans ?_
  refine congrArg₂ BIBase.sep ?_ rfl
  unfold bufSet
  have h01 := devRef_ne d L (show (cc0_scratch0 : Ref sig .scVector) ≠ cc0_scratch1 by decide)
  have h02 := devRef_ne d L (show (cc0_scratch0 : Ref sig .scVector) ≠ cc0_scratch2 by decide)
  have h03 := devRef_ne d L (show (cc0_scratch0 : Ref sig .scVector) ≠ cc0_scratch3 by decide)
  have h12 := devRef_ne d L (show (cc0_scratch1 : Ref sig .scVector) ≠ cc0_scratch2 by decide)
  have h13 := devRef_ne d L (show (cc0_scratch1 : Ref sig .scVector) ≠ cc0_scratch3 by decide)
  have h23 := devRef_ne d L (show (cc0_scratch2 : Ref sig .scVector) ≠ cc0_scratch3 by decide)
  rw [SparseCore.bigSep_insert' (by simp only [Finset.mem_insert, Finset.mem_singleton, not_or]; exact ⟨h01, h02, h03⟩),
    SparseCore.bigSep_insert' (by simp only [Finset.mem_insert, Finset.mem_singleton, not_or]; exact ⟨h12, h13⟩),
    SparseCore.bigSep_insert' (by simp only [Finset.mem_singleton]; exact h23), bigSep_singleton]

/-! ## The whole task -/

/-- The words the kernel computes for the table's lanes name entries of the table. -/
theorem pay1_lt : ∀ j : S16.Idx, (k0_pay1 j).toNat < 16 := by decide

/-- What the kernel stores back into its table: the rearranged table. -/
theorem table_value (lut f : Vec F S16 .f32) (h : ∀ a x, ((![k0_pay1] : Fin 1 → IVec S16 32) a x).toNat < S16.size a) :
    ((sT).access (Rect.unit (s := S16) ![0] S16.size inb_S16_S16_0)).write (Elt F) f
      (loadIdx (((sT).access (Rect.whole S16)).read (Elt F) lut) ![k0_pay1] h) Finset.univ = lutF lut := by
  funext j
  have hj : ((sT).access (Rect.unit (s := S16) ![0] S16.size inb_S16_S16_0)).emb j = j := by
    refine funext fun (a : Fin 1) => ?_
    obtain rfl : a = 0 := Subsingleton.elim _ _
    apply Fin.ext
    show 0 + 1 * (j 0).val = (j 0).val
    omega
  have e := View.write_emb_of_mem (v := (sT).access (Rect.unit (s := S16) ![0] S16.size inb_S16_S16_0)) f
    (loadIdx (((sT).access (Rect.whole S16)).read (Elt F) lut) ![k0_pay1] h) (Finset.mem_univ j)
  rw [hj] at e
  refine e.trans ?_
  unfold lutF
  rw [entry_eq (k0_pay1 j) (pay1_lt j) ((Rect.whole S16).emb (idxAt ![k0_pay1] h j)) ?_]
  · rfl
  · show 0 + 1 * (k0_pay1 j).toNat = (k0_pay1 j).toNat
    omega

/-- A task turns what it is handed into what it gives back, and returns its buffers and its semaphores, these at zero. -/
theorem tile_body (hF : (K (F := F)).Facts) (hnp : ∀ j, (np d j).toNat < 16) (O : CellTallies nD τ sig (HIx 1)) (W : Waits sig (HIx 1)) (hO : ∀ g, O g none = 0) :
    iprop(levAts (K (F := F)).L (K (F := F)).lev ∗ emp ∗ taskIn m tab np mk d (L 0).val (L 1).val
        ∗ scopedBufs (thr d L) ∗ scopedSems0 (thr d L) ∗ owes (thr d L) O W)
      ⊢ wp frame (wpE (defs₀ (F := F)) 𝒱₀ (thr d L) none) Set.univ
          (cc0__sc_body L tabW (Memref.isWhole_whole _) npW (Memref.isWhole_whole _) mkW (Memref.isWhole_whole _) outW (Memref.isWhole_whole _)
            sT (Memref.isWhole_whole _) sN (Memref.isWhole_whole _) sM (Memref.isWhole_whole _) sO (Memref.isWhole_whole _) cc0_scoped0 cc0_scoped1 cc0_scoped2 cc0_scoped3)
          fun _ => iprop(taskOut tab np mk d (L 0).val (L 1).val ∗ scopedBufs (thr d L) ∗ scopedSems0 (thr d L)
            ∗ ∃ W', ⌜∀ p ∈ W', p ∈ W ∨ p.2 = none⌝ ∗ owes (thr d L) O W') := by
  have hchk : k0_chk1 k0_pay1 := by
    intro a x
    obtain rfl : a = 0 := Subsingleton.elim _ _
    exact pay1_lt x
  simp only [cc0__sc_body_eq_skeleton]; unfold cc0__sc_body_skel
  rw [(K (F := F)).scopedBufs_V hF d (cV L) (jV L), SparseCore.Cfg.scopedSems0_V (Val := Elt F) d (cV L) (jV L), own_sems, own_bufs]
  unfold taskIn
  iintro ⟨#Hlv, -, ⟨Htab, Hnp, Hmk, Hout⟩, ⟨⟨⟨%f0, HT⟩, HN, HM, HO⟩, Hbufs⟩, ⟨⟨Hs0, Hs1, Hs2, Hs3⟩, Hsems⟩, Hw⟩
  ihave Hmw := ((K (F := F)).mayWaits_none (thr := thr d L) hO) $$ Hlv
  ihave Htab' := (Entails.of_eq (show (tabPts tab d (L 0).val (L 1).val : sProp 𝕄) = ((tabW).view.loc (thr d L) ↦{sh (L 0).val (L 1).val} tab d) from rfl)) $$ Htab
  sl_exec (disch := exact View.amount_pos _ _ (show 0 < S16.numel by decide))
  simp only [Prog.lift, Prog.bind_op, Prog.bind_ret, Prog.pure_eq_ret]
  ihave HT' := (Entails.of_eq (show _ = ((sT).view.loc (thr d L) ↦{fullShare} tab d : sProp 𝕄) by rw [View.write_whole_univ]; rfl)) $$ HT
  iapply (SparseCore.wp_vectorLoadIdx 𝒱₀ (thr d L) none Set.univ (base := sT) (S := Finset.univ) (q := fullShare) (Finset.subset_univ _)) $$ HT'; iintro HT
  iapply (wp_load 𝒱₀ (thr d L) none Set.univ (m := sT) (S := Finset.univ) (Finset.subset_univ _)) $$ HT; iintro HT
  iapply (wp_store 𝒱₀ (thr d L) none Set.univ (m := sT) (r := Rect.unit (s := S16) ![0] S16.size inb_S16_S16_0) (Mk := Finset.univ) (S := Finset.univ) (Finset.subset_univ _)) $$ HT; iintro HT
  ihave HT' := (Entails.of_eq (congrArg (fun f => ((sT).view.loc (thr d L) ↦{fullShare} f : sProp 𝕄)) (table_value (tab d) _ _))) $$ HT
  sl_for (inv1 m tab np mk d L O (insert (SemLoc.dma cc0_scoped0.sem, none) W)) $$ [Hmw HT' HN HM HO Hnp Hmk Hout Hs1 Hs2 Hs3 Hw]
  case region => exact fun k _ => trip1 m tab np mk d L hnp O _ k
  · unfold inv1
    isplitr; · iexact Hmw
    isplitl [HT']; · iexact HT'
    isplitl [HN]; · iexact HN
    isplitl [HM]; · iexact HM
    isplitl [HO]; · iexact HO
    isplitl [Hnp]; · iexact Hnp
    isplitl [Hmk]; · iexact Hmk
    isplitl [Hout]; · iapply (Entails.of_eq (outDone_zero m tab np mk d L)) $$ Hout
    isplitl [Hs1]; · iexact Hs1
    isplitl [Hs2]; · iexact Hs2
    isplitl [Hs3]; · iexact Hs3
    iexists _; isplitr
    rotate_left
    · iexact Hw
    ipureintro
    exact fun p hp => .inl hp
  iintro %_ HI
  sl_step
  unfold inv1
  icases HI with ⟨-, HT, HN, HM, HO, -, -, Hout, Hs1, Hs2, Hs3, %W', %hW', Hw⟩
  isplitl [Hout]; · iapply (Entails.of_eq (outDone_all m tab np mk d L)) $$ Hout
  isplitl [HT HN HM HO Hbufs]
  · isplitr [Hbufs]
    · isplitl [HT]; · iexists _; iexact HT
      isplitl [HN]; · iexact HN
      isplitl [HM]; · iexact HM
      iexact HO
    · iexact Hbufs
  isplitl [Hs0 Hs1 Hs2 Hs3 Hsems]
  · isplitr [Hsems]
    · isplitl [Hs0]; · iexact Hs0
      isplitl [Hs1]; · iexact Hs1
      isplitl [Hs2]; · iexact Hs2
      iexact Hs3
    · iexact Hsems
  iexists W'; isplitr
  · ipureintro
    intro p hp
    rcases hW' p hp with h | h
    · rcases Finset.mem_insert.mp h with rfl | h
      · exact .inr rfl
      · exact .inl h
    · exact .inr h
  · iexact Hw

end Tile

end Cert.KernelIdeal.Run

end
-- ==== Proof.KernelIdeal.Run.lean ====
/-
  The kernel's run. The table and the inputs the host operations prepare are dealt to the thirty-two tasks, whose chunks of the
  output join to the whole output at `outF`; the last host operation reshapes it. `run_main` states it: every execution ends, with
  every buffer outside the call's three operands at contents named here (`Vend`), and every semaphore at zero.
-/
module

public import proofs.«01_k».proof.Proof.KernelIdeal.Task
public import Idealize.ShloMosaic.Lib.Pipeline.Frame

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_sub_split held_congr wp_seq tcRefs after TRef seq)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type}

local notation "𝕄" => MT nD τ sig (HIx 1) (Elt F) ℕ UU ℕ

/-! ## Dealing the arrays to the tasks -/

section Deal

/-- A family over the thirty-two workers, by core and subcore. -/
theorem by_worker (Φ : Fin 32 → sProp 𝕄) :
    bigSep Finset.univ Φ = bigSep Finset.univ fun c : Fin 2 => bigSep Finset.univ fun i : Fin 16 => Φ (wid c.val i.val) := by
  rw [bigSep_univ_equiv (finProdFinEquiv (m := 16) (n := 2)) Φ, bigSep_univ_prod, bigSep_univ_comm]
  refine bigSep_congr fun c _ => bigSep_congr fun i _ => congrArg Φ (Fin.ext ?_)
  show c.val + 2 * i.val = (2 * i.val + c.val) % 32
  omega

/-- A family over the 1024 chunks, by core, subcore and trip. -/
theorem by_chunk (Φ : Fin 1024 → sProp 𝕄) :
    bigSep Finset.univ Φ
      = bigSep Finset.univ fun c : Fin 2 => bigSep Finset.univ fun i : Fin 16 => bigSep Finset.univ fun t : Fin 32 => Φ (chunkNo c.val i.val t.val) := by
  rw [bigSep_univ_equiv (finProdFinEquiv (m := 32) (n := 32)) Φ, bigSep_univ_prod, by_worker]
  refine bigSep_congr fun c _ => bigSep_congr fun i _ => bigSep_congr fun t _ => congrArg Φ (Fin.ext ?_)
  show t.val + 32 * ((2 * i.val + c.val) % 32) = (64 * i.val + 32 * c.val + t.val) % 1024
  omega

/-- An array at the full share is the workers' read shares of it. -/
theorem full_shares {ℓ : Loc nD τ sig} (f : Buf (Elt F) ℓ) :
    (ℓ ↦{fullShare} f : sProp 𝕄) = bigSep Finset.univ fun c : Fin 2 => bigSep Finset.univ fun i : Fin 16 => ℓ ↦{sh c.val i.val} f := by
  rw [pointsTo_leaves Finset.univ f 5 fullShare]
  exact by_worker (F := F) (fun w => (ℓ ↦{leaf 5 fullShare w} f : sProp 𝕄))

/-- The output whole is the tasks' chunks of it. -/
theorem full_chunks (d : Dev nD) (f : Buf (Elt F) (outLoc d)) :
    (outLoc d ↦{fullShare} f : sProp 𝕄)
      = bigSep Finset.univ fun c : Fin 2 => bigSep Finset.univ fun i : Fin 16 => bigSep Finset.univ fun t : Fin 32 => outPts d c.val i.val t.val f := by
  have hd : ∀ i ∈ (Finset.univ : Finset (Fin 1024)), ∀ j ∈ (Finset.univ : Finset (Fin 1024)), i ≠ j → Disjoint (chunk i) (chunk j) :=
    fun i _ j _ h => Rect.part_disjoint hdiv h
  have hc : (Finset.univ : Finset (Fin 1024)).biUnion chunk = Finset.univ := Rect.biUnion_part hdiv
  have e : (outLoc d ↦{fullShare} f : sProp 𝕄) = bigSep Finset.univ fun n : Fin 1024 => outLoc d ↦[chunk n]{fullShare} f := by
    rw [← pointsTo_biUnion Finset.univ (ℓ := outLoc d) chunk hd, hc]
  rw [e]
  exact by_chunk (F := F) (fun n => (outLoc d ↦[chunk n]{fullShare} f : sProp 𝕄))

end Deal

variable (m : (ℓ : Loc nD τ sig) → Buf (Elt F) ℓ) (ρ : Dev nD → PrngReg)

variable [FloatOps F]

section Call

variable (tab : Dev nD → Vec F S16 .f32) (np : Dev nD → IVec S16777216 32) (mk : Dev nD → Vec F S16777216 .f32)

/-- The three operands and the output, whole, are what the tasks are handed, -/
theorem deal (d : Dev nD) :
    iprop((tabLoc d ↦{fullShare} tab d) ∗ (npLoc d ↦{fullShare} np d) ∗ (mkLoc d ↦{fullShare} mk d) ∗ outLoc d ↦{fullShare} m (outLoc d))
      = (bigSep Finset.univ fun c : Fin 2 => bigSep Finset.univ fun i : Fin 16 => taskIn m tab np mk d c.val i.val : sProp 𝕄) := by
  rw [full_shares, full_shares, full_shares, full_chunks]
  unfold taskIn
  simp only [bigSep_sep']

/-- and the tasks' results are the output whole. -/
theorem join (d : Dev nD) :
    (bigSep Finset.univ fun c : Fin 2 => bigSep Finset.univ fun i : Fin 16 => taskOut tab np mk d c.val i.val : sProp 𝕄)
      = (outLoc d ↦{fullShare} outF (tab d) (np d) (mk d)) :=
  (full_chunks (F := F) d _).symm

/-! ## The launch theorem's obligations -/

/-- A SparseCore and a subcore, as the grid's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- What a subcore runs at the call: the kernel's body at its coordinates, if they lie in the grid. -/
theorem defs₀_vector (c : Fin τ.nSC) (s : Fin τ.nSub) :
    defs₀ (F := F) (.scVector c s) 0 ()
      = SparseCore.onTile hcore0 hsub0 (fun c s => cc0__sc_body (coordsV c s)
          (Memref.whole main_v0_scv) (Memref.isWhole_whole _) (Memref.whole main_v1_scv) (Memref.isWhole_whole _)
          (Memref.whole main_v2_scv) (Memref.isWhole_whole _) (Memref.whole main_v3_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scoped0 cc0_scoped1 cc0_scoped2 cc0_scoped3) ⟨⟩ c s := rfl

omit [FloatOps F] in
/-- A task waits on semaphores of its own alone, so on no other call's. -/
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task meets the call's terms. -/
theorem tileObl (hF : (K (F := F)).Facts) (hnp : ∀ d j, (np d j).toNat < 16) :
    (K (F := F)).TileObl (D (F := F)) 𝒱 (P m tab np mk) v₀ 0 := by
  intro d c i O W hO _ _
  simp only [show (P m tab np mk).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m tab np mk d (coordsV ⟨_, hc.1⟩ ⟨_, hc.2⟩) hF (hnp d) O W hO).trans (wp_mono frame _ _ fun _ => weaken_waits)

/-- The launch's ghost state: the handshakes' rounds, and no counter's. -/
def u₀ : UU := (initOf (K (F := F)).hsCells (K (F := F)).hsToks, 1)

/-- The launch's ghost state holds the handshakes' rounds; the tasks need nothing of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m tab np mk).x q thr) := by
  have he {I : Type} (s : Finset I) : (bigSep s fun _ => iprop(emp)) = (iprop(emp) : sProp 𝕄) := bigSep_emp_const s
  have hx : (bigSep Finset.univ fun thr : Thread nD τ => bigSep Finset.univ fun q : Fin 1 => (P m tab np mk).x q thr) = (iprop(emp) : sProp 𝕄) :=
    (bigSep_congr fun _ _ => he _).trans (he _)
  rw [hx, he]
  unfold u₀
  iintro Hu
  ihave H := (ownU_pair _ _) $$ Hu
  icases H with ⟨HH, -⟩
  imodintro
  isplitl [HH]; · iexact HH
  isplitr <;> iempintro

/-- What the call hands out is every task's part, -/
theorem st_eq (d : Dev nD) : (bigSep Finset.univ fun c : Fin ((K (F := F)).nCore 0) => (P m tab np mk).st 0 d c)
    = (bigSep Finset.univ fun c : Fin 2 => bigSep Finset.univ fun i : Fin 16 => taskIn m tab np mk d c.val i.val : sProp 𝕄) := rfl
/-- and what it takes back is every task's results. -/
theorem dn_eq (d : Dev nD) : (bigSep Finset.univ fun c : Fin ((K (F := F)).nCore 0) => (P m tab np mk).dn 0 d c)
    = (bigSep Finset.univ fun c : Fin 2 => bigSep Finset.univ fun i : Fin 16 => taskOut tab np mk d c.val i.val : sProp 𝕄) := rfl

end Call

/-! ## @main on the TensorCore -/

/-- The host operations before the call. -/
def preOps : List (HloOp τ sig (Elt F)) :=
  [StableHlo.nullary main_c (constantI S_ 32 0#32),
    TRef.unary (.of main_c : TRef sig ⟨S_, .i32⟩) main_call0.v0 (sitofp .f32),
    TRef.binary (.of main_arg3 : TRef sig ⟨S5, .f32⟩) main_call0.v0 main_call0.v1 (fun x v => pad S16 ![0] ![11] ![0] x v pads_S5_S16_0110 h_S_),
    StableHlo.reshape main_arg1 main_v1 (rfl : (.i32 : EltTy) = .i32) shapeCasts_S4096x4096_S16777216,
    StableHlo.reshape main_arg2 main_v2 (rfl : (.f32 : EltTy) = .f32) shapeCasts_S4096x4096_S16777216]
/-- The host operation after the call. -/
def postOps : List (HloOp τ sig (Elt F)) :=
  [StableHlo.reshape main_v3 main_v4 (rfl : (.f32 : EltTy) = .f32) shapeCasts_S16777216_S4096x4096]

/-- `@main` after its first operations: the call, and the last operation. -/
def fromCall (d : Dev nD) : PUnit → Prog (TpuEff nD τ sig (Elt F) (SparseCore.Sig (ΛP (F := F)) 1) .tc) PUnit :=
  fun _ => sc.run d 0 >>= fun _ => (seq postOps >>= fun _ => pure ⟨⟩)

/-- `@main` is its first operations and then the rest. -/
theorem main_eq (d : Dev nD) : main (F := F) d = (seq preOps >>= fromCall d) := rfl

/-- The padded table, as a buffer of a device, -/
abbrev tab' : DevRef τ sig := Proc.devRef .tc (main_v0 : Ref sig .tc)
/-- the flat path lengths, -/
abbrev np' : DevRef τ sig := Proc.devRef .tc (main_v1 : Ref sig .tc)
/-- the flat mask, -/
abbrev mk' : DevRef τ sig := Proc.devRef .tc (main_v2 : Ref sig .tc)
/-- and the call's output. -/
abbrev out' : DevRef τ sig := Proc.devRef .tc (main_v3 : Ref sig .tc)

/-- The contents of a device's buffers when the call starts. -/
def Vcall (d : Dev nD) : Valuation τ sig (Elt F) := after preOps (fun b => m (d, b))

/-- The call's operands: the padded table, -/
def tabM (d : Dev nD) : Vec F S16 .f32 := Vcall m d tab'
/-- The flat path lengths, -/
def npM (d : Dev nD) : IVec S16777216 32 := Vcall m d np'
/-- and the flat mask. -/
def mkM (d : Dev nD) : Vec F S16777216 .f32 := Vcall m d mk'

/-- The contents after the call. -/
def Vout (d : Dev nD) : Valuation τ sig (Elt F) := Function.update (Vcall m d) out' (outF (tabM m d) (npM m d) (mkM m d))
/-- The contents at the end. -/
def Vend (d : Dev nD) : Valuation τ sig (Elt F) := after postOps (Vout m d)

/-- The buffers other than the call's three operands. -/
def kept : Finset (DevRef τ sig) := Pipeline.ucRefs τ sig \ {tab', np', mk'}

/-- A buffer that no region scopes is among those the launch holds. -/
theorem mem_uc (b : Ref sig .tc) (h : b.isScoped = false) : Proc.devRef (τ := τ) .tc b ∈ Pipeline.ucRefs τ sig :=
  Finset.mem_filter.mpr ⟨StableHlo.devRef_mem_tcRefs b, fun h' => Bool.false_ne_true (h.symm.trans h')⟩

/-- So are the three operands. -/
theorem operands_sub : ({tab', np', mk'} : Finset (DevRef τ sig)) ⊆ Pipeline.ucRefs τ sig := by
  intro b hb
  simp only [Finset.mem_insert, Finset.mem_singleton] at hb
  rcases hb with rfl | rfl | rfl <;> exact mem_uc _ rfl

/-- And a buffer other than those three is among the kept ones. -/
theorem mem_kept (b : Ref sig .tc) (h : b.isScoped = false) (hb : Proc.devRef (τ := τ) .tc b ∉ ({tab', np', mk'} : Finset (DevRef τ sig))) :
    Proc.devRef (τ := τ) .tc b ∈ kept := Finset.mem_sdiff.mpr ⟨mem_uc b h, hb⟩

/-- The operations before the call touch only buffers the launch holds, -/
theorem preOps_sub : ∀ op ∈ preOps (F := F), op.bufs ⊆ Pipeline.ucRefs τ sig := fun op h =>
  Pipeline.sub_ucRefs op (List.forall_iff_forall_mem.mp
    (show (preOps (F := F)).Forall fun op => op.bufs ⊆ tcRefs τ sig from ⟨StableHlo.nullary_bufs_sub .., StableHlo.unary_bufs_sub ..,
      StableHlo.binary_bufs_sub .., StableHlo.reshape_bufs_sub .., StableHlo.reshape_bufs_sub ..⟩) op h)

/-- and the one after it only kept ones. -/
theorem postOps_sub : ∀ op ∈ postOps (F := F), op.bufs ⊆ kept := by
  intro op h b hb
  have e : op = StableHlo.reshape main_v3 main_v4 (rfl : (.f32 : EltTy) = .f32) shapeCasts_S16777216_S4096x4096 := List.mem_singleton.mp h
  refine Finset.mem_sdiff.mpr ⟨Pipeline.sub_ucRefs _ (by rw [e]; exact StableHlo.reshape_bufs_sub ..) hb, ?_⟩
  rw [e] at hb
  rcases Finset.mem_insert.mp hb with rfl | hb
  · decide
  · rw [Finset.mem_singleton.mp hb]; decide

/-- No operation allocates a buffer, before the call -/
theorem preOps_fresh : ∀ op ∈ preOps (F := F), op.fresh = ∅ := by
  intro op h; (repeat (cases h with | head => rfl | tail _ h => ?_)); exact nomatch h
/-- or after it. -/
theorem postOps_fresh : ∀ op ∈ postOps (F := F), op.fresh = ∅ := by
  intro op h; (repeat (cases h with | head => rfl | tail _ h => ?_)); exact nomatch h

/-- When the call starts, its output is as it was at the launch. -/
theorem Vcall_out (d : Dev nD) : Vcall m d out' = m (d, out') := by
  simp only [Vcall, preOps, TRef.binary, TRef.unary, TRef.toBuf, TRef.ofBuf, cast_eq]
  after_results_simp

/-- What the device holds when the call starts: the operands and the output, and the rest. -/
theorem held_call (d : Dev nD) : (held (T d) (Pipeline.ucRefs τ sig) (Vcall m d) : sProp 𝕄)
    = iprop(((tabLoc d ↦{fullShare} tabM m d) ∗ (npLoc d ↦{fullShare} npM m d) ∗ mkLoc d ↦{fullShare} mkM m d)
        ∗ (outLoc d ↦{fullShare} m (outLoc d)) ∗ held (T d) (kept.erase out') (Vcall m d)) := by
  rw [held_sub_split _ operands_sub]
  unfold held kept
  rw [SparseCore.bigSep_erase' (show out' ∈ Pipeline.ucRefs τ sig \ {tab', np', mk'} from mem_kept _ rfl (by decide)), Vcall_out,
    SparseCore.bigSep_insert' (by decide), SparseCore.bigSep_insert' (by decide), bigSep_singleton]
  rfl

/-- What it holds after the call, the operands aside. -/
theorem held_out (d : Dev nD) : (held (T d) kept (Vout m d) : sProp 𝕄)
    = iprop((outLoc d ↦{fullShare} outF (tabM m d) (npM m d) (mkM m d)) ∗ held (T d) (kept.erase out') (Vcall m d)) := by
  unfold held
  rw [SparseCore.bigSep_erase' (show out' ∈ kept from mem_kept _ rfl (by decide))]
  refine congrArg₂ BIBase.sep ?_ (bigSep_congr fun b hb => ?_)
  · unfold Vout; rw [Function.update_self]
  · unfold Vout; rw [Function.update_of_ne (Finset.ne_of_mem_erase hb)]

/-- What `@main` leaves on device `d`. -/
def FIN (d : Dev nD) : sProp 𝕄 := held (T d) kept (Vend m d)

/-- The launch's buffers, held. -/
theorem launch_held (d : Dev nD) : (unscopedBufs d (fun b => m ((SparseCore.T d).loc b)) : sProp 𝕄) = held (T d) (Pipeline.ucRefs τ sig) (fun b => m (d, b)) := by
  unfold unscopedBufs held Pipeline.ucRefs tcRefs
  rw [Finset.filter_map, bigSep_map]
  rfl

/-- `@main` runs from the launch's resources to `FIN`. -/
theorem hmain (κ : GSem nD τ sig → ℕ) (d : Dev nD) :
    iprop((K (F := F)).ctx EH (P m (tabM m) (npM m) (mkM m)) κ ∗ (K (F := F)).tcSt EH d 0 ∗ (K (F := F)).tcRes m ρ d ∗ emp)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [launch_held, main_eq]
  iintro ⟨#Hctx, Hst, ⟨Hb, Hheld, Hts, -⟩, -⟩
  iapply (wp_seq (defs := (K (F := F)).defs (D (F := F))) 𝒱 none Set.univ d (Pipeline.ucRefs τ sig) (fromCall d) preOps preOps_sub preOps_fresh (fun b => m (d, b))) $$ [Hb Hheld]
  · isplitl [Hb] <;> iassumption
  rw [show after preOps (fun b => m (d, b)) = Vcall m d from rfl]
  iintro ⟨Hb, Hheld⟩
  unfold fromCall
  rw [wp_bind]
  ihave Hh := (Entails.of_eq (held_call m d)) $$ Hheld
  icases Hh with ⟨⟨Ht, Hn, Hm⟩, Ho, Hrest⟩
  iapply ((K (F := F)).wp_run (D (F := F)) 𝒱 (EH := EH) (P := P m (tabM m) (npM m) (mkM m)) κ d 0) $$ [Hst Ht Hn Hm Ho Hrest Hb Hts]
  isplitr; · iexact Hctx
  isplitl [Hst]; · iexact Hst
  isplitl [Ht Hn Hm Ho]
  · rw [st_eq, ← deal]
    isplitl [Ht]; · iexact Ht
    isplitl [Hn]; · iexact Hn
    isplitl [Hm]; · iexact Hm
    iexact Ho
  rw [dn_eq, join]
  iintro ⟨Hst, Ho⟩
  iapply (wp_seq (defs := (K (F := F)).defs (D (F := F))) 𝒱 none Set.univ d kept _ postOps postOps_sub postOps_fresh (Vout m d)) $$ [Hb Ho Hrest]
  · isplitl [Hb]; · iexact Hb
    iapply (Entails.of_eq (held_out m d).symm)
    isplitl [Ho] <;> iassumption
  rw [show after postOps (Vout m d) = Vend m d from rfl]
  iintro ⟨Hb, Hheld⟩
  rw [wp_pure]; imodintro
  isplitl [Hst]; · iexact Hst
  isplitl [Hheld]
  · unfold FIN; iexact Hheld
  isplitl [Hb] <;> iassumption

/-- What is read of device `d`'s final state. -/
def fq (d : Dev nD) (s' : Phys nD τ sig (Elt F)) : Prop := ∀ b ∈ kept, s'.mem.mem (d, b) = Vend m d b

/-- What `@main` leaves fixes the kept buffers' contents in the final memory. -/
theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (st := s') (c := d) (qs := fun _ => fullShare) (F := Vend m d) kept) $$ [HSI H]
  isplitl [HSI]; · iexact HSI
  iexact H

/-- The final states: every buffer but the operands at `Vend`, every semaphore at zero. -/
def QC : PUnit × MemSt nD τ sig (Elt F) → Prop := fun r => (∀ d : Dev nD, ∀ b ∈ kept, r.2.mem (d, b) = Vend m d b) ∧ r.2.sem = fun _ => 0

/-- Where every path length names an entry of the padded table, every execution ends in a state of `QC`. -/
theorem run_main [∀ e, Nonempty (Elt F e)] (hnp : ∀ d j, (npM m d j).toNat < 16) :
    θ_run (defs (F := F)) (threads (F := F)) ⟨m, fun _ => 0, ρ⟩ (QC m) :=
  SparseCore.Cfg.θ_run_sc_quiescent (K := K (F := F)) (D := D (F := F)) (𝒱 := 𝒱) (EH := EH) (P := P m (tabM m) (npM m) (mkM m)) (A := ∅) facts v₀
    (fun q hq => match q with | 0 => nomatch hq)
    (fun q _ => match q with | 0 => tileObl m (tabM m) (npM m) (mkM m) facts hnp)
    (fun q _ => match q with | 0 => SparseCore.Cfg.VecSplit.of_plain (vecSplit m (tabM m) (npM m) (mkM m)))
    m ρ main (fun _ => iprop(emp)) (FIN m) (u₀ (F := F)) (sep_elim_left.trans (hu₀ m (tabM m) (npM m) (mkM m))) (hmain m ρ) (fq m) (hfin m) (QC m)
    (fun _ h hz => ⟨h, hz⟩)

/-! ## The contents at the end, and the operands, read -/

/-- A buffer that no host operation writes, and that is not the call's output, ends as it was at the launch. -/
theorem Vend_same (d : Dev nD) (r : Ref sig .tc) (h : r ∉ [main_c, main_call0.v0.ref, main_call0.v1.ref, main_v1, main_v2])
    (h' : r ≠ main_v3) (h'' : r ≠ main_v4) : Vend m d (Proc.devRef .tc r) = m ((d.tc : Thread nD τ).loc r) := by
  unfold Vend
  rw [StableHlo.after_of_writes_sub (W := [main_v4]) postOps _ (StableHlo.forall_writes_sub_of_map rfl) (by simpa using h'')]
  unfold Vout
  rw [Function.update_of_ne (fun e => h' (Proc.devRef_injective _ e))]
  exact StableHlo.after_of_writes_sub (W := [main_c, main_call0.v0.ref, main_call0.v1.ref, main_v1, main_v2]) preOps _ (StableHlo.forall_writes_sub_of_map rfl) h

/-- So the arguments end as they were. -/
theorem Vend_arg0 (d : Dev nD) : Vend m d (Proc.devRef .tc main_arg0) = m ((d.tc : Thread nD τ).loc main_arg0) :=
  Vend_same m d _ (by decide) (by decide) (by decide)
@[inherit_doc Vend_arg0] theorem Vend_arg1 (d : Dev nD) : Vend m d (Proc.devRef .tc main_arg1) = m ((d.tc : Thread nD τ).loc main_arg1) :=
  Vend_same m d _ (by decide) (by decide) (by decide)
@[inherit_doc Vend_arg0] theorem Vend_arg2 (d : Dev nD) : Vend m d (Proc.devRef .tc main_arg2) = m ((d.tc : Thread nD τ).loc main_arg2) :=
  Vend_same m d _ (by decide) (by decide) (by decide)
@[inherit_doc Vend_arg0] theorem Vend_arg3 (d : Dev nD) : Vend m d (Proc.devRef .tc main_arg3) = m ((d.tc : Thread nD τ).loc main_arg3) :=
  Vend_same m d _ (by decide) (by decide) (by decide)

/-- The result: the call's output, reshaped. -/
theorem Vend_result (d : Dev nD) : Vend m d (Proc.devRef .tc main_v4)
    = shapeCast S4096x4096 (outF (tabM m d) (npM m d) (mkM m d)) shapeCasts_S16777216_S4096x4096 := by
  simp only [Vend, postOps]; after_results_simp; unfold Vout; rw [Function.update_self]; rfl

/-- The call's operands, of the arguments: the table padded with zeros, -/
theorem tabM_eq (d : Dev nD) : tabM m d = pad S16 ![0] ![11] ![0] (m ((d.tc : Thread nD τ).loc main_arg3) : Vec F S5 .f32)
    (sitofp .f32 (constantI S_ 32 0#32)) pads_S5_S16_0110 h_S_ := by
  simp only [tabM, npM, mkM, Vcall, preOps, TRef.binary, TRef.unary, TRef.toBuf, TRef.ofBuf, cast_eq]
  after_results_simp
/-- the path lengths in one row, -/
theorem npM_eq (d : Dev nD) : npM m d = shapeCast S16777216 (m ((d.tc : Thread nD τ).loc main_arg1) : IVec S4096x4096 32) shapeCasts_S4096x4096_S16777216 := by
  simp only [tabM, npM, mkM, Vcall, preOps, TRef.binary, TRef.unary, TRef.toBuf, TRef.ofBuf, cast_eq]
  after_results_simp; rfl
/-- and the mask in one row. -/
theorem mkM_eq (d : Dev nD) : mkM m d = shapeCast S16777216 (m ((d.tc : Thread nD τ).loc main_arg2) : Vec F S4096x4096 .f32) shapeCasts_S4096x4096_S16777216 := by
  simp only [tabM, npM, mkM, Vcall, preOps, TRef.binary, TRef.unary, TRef.toBuf, TRef.ofBuf, cast_eq]
  after_results_simp; rfl

end Cert.KernelIdeal.Run

end
-- ==== Proof.Value.lean ====
/-
  The value. Where every path length is below sixteen, the reference's result at a pair of nodes is its path length's entry of the
  bias table times the mask there, which `spatial` names (`result_eq`, `whole_eq`), and so is the kernel's (`kernel_eq`). The index
  arithmetic of both is over sixteen words, so it is decided.
-/
module

public import proofs.«01_k».proof.Proof.KernelIdeal.Run
public import proofs.«01_k».proof.Proof.Gen.ReferenceIdeal.Run
public import proofs.«01_k».proof.Proof.Gen.Pre_path_lengths
public import Idealize.ShloMosaic.Lib.ValueIdxCore
public import Idealize.ShloMosaic.Lib.ReduceAll
public import Idealize.ShloMosaic.Lib.Pointwise.Reshape
public import Idealize.ShloMosaic.Lib.KernelVsHost

@[expose] public section

noncomputable section

namespace Cert.Spatial

open Idealize.ShloMosaic hiding ix1
open Idealize.ShloMosaic.ValueIdx (ix1 gather_take_apply takeIdx select_one)

/-- One entry for each pair of nodes. -/
abbrev Pairs : Shape := ⟨2, ![4096, 4096]⟩
/-- The bias of each path length. -/
abbrev Table : Shape := ⟨1, ![5]⟩

/-! ## The reference's index of a path length -/

/-- The divisor of the reference's remainder: five, were it not zero. -/
def five : BitVec 32 := Scalar.select (IntOp.cmpi .eq 5#32 0#32) 1#32 5#32

/-- The remainder's word, before its sign is mended. -/
def rem (w : BitVec 32) : BitVec 32 := IntOp.remsi .host (IntOp.subi (IntOp.minsi w 5#32) 1#32) five

/-- One less than the path length, cut off at five, modulo five. -/
def wrapped (w : BitVec 32) : BitVec 32 :=
  Scalar.select (IntOp.andi (IntOp.cmpi .ne (IntOp.cmpi .slt (rem w) 0#32) (IntOp.cmpi .slt five 0#32)) (IntOp.cmpi .ne (rem w) 0#32))
    (IntOp.addi (rem w) five) (rem w)

/-- The word the reference takes at: a negative one counted from the table's end. -/
def taken (w : BitVec 32) : BitVec 32 := Scalar.select (IntOp.cmpi .slt (wrapped w) 0#32) (IntOp.addi (wrapped w) 5#32) (wrapped w)

/-- The bias table's entry of a path length: one less, cut off at the last; of zero, the last. -/
def slot (k : Nat) : Fin 5 := if k = 0 then 4 else ⟨min k 5 - 1, by omega⟩

/-- A statement about the words below sixteen, one by one. -/
theorem words_below {p : BitVec 32 → Prop} (h : ∀ k : Fin 16, p (BitVec.ofNat 32 k.val)) (w : BitVec 32) (hw : w.toNat < 16) : p w := by
  have e := h ⟨w.toNat, hw⟩
  rwa [BitVec.ofNat_toNat, BitVec.setWidth_eq] at e

/-- The word the reference takes at is the path length's slot, -/
theorem taken_slot (w : BitVec 32) (hw : w.toNat < 16) : min (taken w).toInt.toNat (5 - 1) = (slot w.toNat).val :=
  words_below (p := fun w => min (taken w).toInt.toNat (5 - 1) = (slot w.toNat).val) (by decide) w hw

/-- and it is inside the table. -/
theorem taken_inside (w : BitVec 32) (hw : w.toNat < 16) : IntOp.andi (IntOp.cmpi .sge (taken w) 0#32) (IntOp.cmpi .sle (taken w) 4#32) = 1#1 :=
  words_below (p := fun w => IntOp.andi (IntOp.cmpi .sge (taken w) 0#32) (IntOp.cmpi .sle (taken w) 4#32) = 1#1) (by decide) w hw

/-- The encoding of a pair of nodes: its path length's bias times the mask. -/
def spatial (np : IVec Pairs 32) (mask : FVec Ideal Pairs .f32) (b : FVec Ideal Table .f32) : FVec Ideal Pairs .f32 :=
  fun i => (b (ix1 (slot (np i).toNat)) : EReal) * (mask i : EReal)

/-! ## The reference -/

section Reference
open Cert.ReferenceIdeal Cert.ReferenceIdeal.Gen

/-- The indices the reference takes at, as its gather reads them. -/
def takenAt (np : IVec Pairs 32) : IVec S4096x4096x1 32 :=
  broadcastInDim S4096x4096x1 ![0, 1] bcast_S4096x4096_S4096x4096x1_0_1 (fun i => taken (np i) : IVec S4096x4096 32)

/-- The index taken at for a pair of nodes is its path length's. -/
theorem takenAt_apply (np : IVec Pairs 32) (i : Pairs.Idx) : takenAt np (takeIdx i) = taken (np i) := by
  refine congrArg (fun i => taken (np i)) (funext fun a => Fin.ext ?_)
  match a with
  | 0 => rfl
  | 1 => rfl

/-- The reference's bounds test of an index. -/
def inside (np : IVec Pairs 32) : IVec Pairs 1 :=
  Host.reduce IntOp.andi
    (andi (cmpi .sge (takenAt np) (broadcastInDim S4096x4096x1 ![] bcast_S_S4096x4096x1 (constantI S_ 32 0#32)))
      (cmpi .sle (takenAt np) (broadcastInDim S4096x4096x1 ![0, 1, 2] bcast_S1x1x1_S4096x4096x1_0_1_2
        (broadcastInDim S1x1x1 ![2] bcast_S1_S1x1x1_2 (constantI S1 32 4#32)))))
    (constantI S_ 1 1#1) reducesTo_S4096x4096x1_S4096x4096_d2 h_S_

/-- Every index is inside where every path length is below sixteen. -/
theorem inside_apply (np : IVec Pairs 32) (hnp : ∀ i, (np i).toNat < 16) (i : Pairs.Idx) : inside np i = 1#1 :=
  Host.reduce_andi_one _ _ _ _ _ rfl fun _ => taken_inside _ (hnp _)

/-- The reference's operations, the index arithmetic named. -/
def whole (np : IVec Pairs 32) (mask : FVec Ideal Pairs .f32) (b : FVec Ideal Table .f32) : FVec Ideal Pairs .f32 :=
  mulf (select (cmpf .une mask (broadcastInDim S4096x4096 ![] bcast_S_S4096x4096 (constant S_ .f32 0x00000000#32)))
    (select (inside np) (Host.gather gather_S5_S4096x4096x1_S4096x4096_n_0_n_n_0_2_1 b (takenAt np))
      (broadcastInDim S4096x4096 ![] bcast_S_S4096x4096 (constant S_ .f32 0x7FC00000#32)))
    (broadcastInDim S4096x4096 ![] bcast_S_S4096x4096 (constant S_ .f32 0x00000000#32))) mask

/-- The reference's result is that term. -/
theorem result_eq (m : (ℓ : Loc nD τ sig) → Buf (Elt Ideal) ℓ) (c : Dev nD) :
    Value.res_main_v9 (F := Ideal) m c
      = whole (m ((c.tc : Thread nD τ).loc main_arg1)) (m ((c.tc : Thread nD τ).loc main_arg2)) (m ((c.tc : Thread nD τ).loc main_arg3)) := rfl

/-- A bias times the mask, or zero times the mask where the mask is zero: the same. -/
theorem guarded_mul (x y : EReal) : Scalar.select (Ideal.cmp .une y 0) x 0 * y = x * y := by
  by_cases h : y = 0
  · rw [h, mul_zero, mul_zero]
  · rw [show Ideal.cmp .une y 0 = 1#1 from congrArg BitVec.ofBool (decide_eq_true h), select_one]

/-- The reference's result is the encoding, where every path length is below sixteen. -/
theorem whole_eq (np : IVec Pairs 32) (mask : FVec Ideal Pairs .f32) (b : FVec Ideal Table .f32) (hnp : ∀ i, (np i).toNat < 16) :
    whole np mask b = spatial np mask b := by
  funext i
  have e0 : (FloatOps.ofBits .f32 0x00000000#32 : Ideal .f32) = (0 : EReal) := Ideal.ofBits_zero_f32
  have eg : Host.gather gather_S5_S4096x4096x1_S4096x4096_n_0_n_n_0_2_1 b (takenAt np) i = b (ix1 (slot (np i).toNat)) := by
    refine (gather_take_apply (N := 5) (R := 4096) (C := 4096) (by decide) _ b (takenAt np) i).trans ?_
    refine congrArg (fun k => b (ix1 k)) (Fin.ext ?_)
    show min (takenAt np (takeIdx i)).toInt.toNat (5 - 1) = _
    rw [takenAt_apply, taken_slot _ (hnp i)]
  show (Scalar.select (Ideal.cmp .une (mask i) (FloatOps.ofBits .f32 0x00000000#32 : Ideal .f32))
    (Scalar.select (inside np i) (Host.gather gather_S5_S4096x4096x1_S4096x4096_n_0_n_n_0_2_1 b (takenAt np) i) (FloatOps.ofBits .f32 0x7FC00000#32 : Ideal .f32))
    (FloatOps.ofBits .f32 0x00000000#32 : Ideal .f32) : EReal) * (mask i : EReal) = _
  rw [e0, inside_apply np hnp i, eg, select_one, guarded_mul]
  rfl

end Reference

/-! ## The kernel -/

section Kernel
open Cert.KernelIdeal Cert.KernelIdeal.Gen Cert.KernelIdeal.Run

/-- The padded table's entry the kernel moves to lane `k` is the bias of path length `k`. -/
theorem lane_slot (w : BitVec 32) (hw : w.toNat < 16) : (k0_pay1 (entry w)).toNat % 16 = (slot w.toNat).val :=
  words_below (p := fun w => (k0_pay1 (entry w)).toNat % 16 = (slot w.toNat).val) (by decide) w hw

/-- The kernel's rearranged table at a path length. -/
theorem table_entry (b : FVec Ideal Table .f32) (z : FVec Ideal S_ .f32) (w : BitVec 32) (hw : w.toNat < 16) :
    lutF (pad S16 ![0] ![11] ![0] b z pads_S5_S16_0110 h_S_ : Vec Ideal S16 .f32) (entry w) = b (ix1 (slot w.toNat)) := by
  refine pad_apply_of_inside _ _ _ b z _ _ _ (ix1 (slot w.toNat)) fun a => ?_
  obtain rfl : a = 0 := Subsingleton.elim _ _
  show (k0_pay1 (entry w)).toNat % 16 = 0 + (slot w.toNat).val * (0 + 1)
  rw [lane_slot w hw]; omega

/-- The call's output, reshaped, is the encoding of what its operands are reshaped from. -/
theorem kernel_eq (np : IVec Pairs 32) (mask : FVec Ideal Pairs .f32) (b : FVec Ideal Table .f32) (z : FVec Ideal S_ .f32) (hnp : ∀ i, (np i).toNat < 16) :
    shapeCast S4096x4096 (outF (pad S16 ![0] ![11] ![0] b z pads_S5_S16_0110 h_S_ : Vec Ideal S16 .f32)
      (shapeCast S16777216 np shapeCasts_S4096x4096_S16777216) (shapeCast S16777216 mask shapeCasts_S4096x4096_S16777216)) shapeCasts_S16777216_S4096x4096
      = spatial np mask b := by
  have back {α : Type} (x : Pairs.Idx → α) (i : Pairs.Idx) :
      shapeCast S16777216 x shapeCasts_S4096x4096_S16777216 (Shape.reshapeEquiv shapeCasts_S16777216_S4096x4096 i) = x i := by
    have e := congrFun (shapeCast_comp x shapeCasts_S4096x4096_S16777216 shapeCasts_S16777216_S4096x4096) i
    rw [shapeCast_id] at e
    exact e
  funext i
  show (lutF (F := Ideal) _ (entry (shapeCast S16777216 np shapeCasts_S4096x4096_S16777216 (Shape.reshapeEquiv shapeCasts_S16777216_S4096x4096 i))) : EReal)
    * (shapeCast S16777216 mask shapeCasts_S4096x4096_S16777216 (Shape.reshapeEquiv shapeCasts_S16777216_S4096x4096 i) : EReal) = _
  rw [back, back, table_entry b z _ (hnp i)]
  rfl

end Kernel

/-! ## The precondition -/

/-- The precondition says every path length is below sixteen. -/
theorem below_of_pre {F : FTy → Type} [FloatOps F] (x : FVec F ⟨2, ![4096, 256]⟩ .f32) (np : IVec Pairs 32) (mask : FVec F Pairs .f32)
    (b : FVec F Table .f32) (h : Cert.Pre_path_lengths.fn x np mask b = fun _ => 1#1) (i : Pairs.Idx) : (np i).toNat < 16 := by
  have : Subsingleton (⟨0, ![]⟩ : Shape).Idx := ⟨fun _ _ => funext fun a => a.elim0⟩
  have e := Host.reduce_andi_all _ _ _ _ _ (congrFun h fun a => a.elim0) i
  have e' : IntOp.andi (IntOp.cmpi .sge (np i) 0#32) (IntOp.cmpi .slt (np i) 16#32) = 1#1 := e
  obtain ⟨h0, h1⟩ := IntOp.andi_eq_one.1 e'
  have one (p : Bool) (hp : BitVec.ofBool p = 1#1) : p = true := by cases p <;> simp_all
  have h0 := one _ h0
  have h1 := one _ h1
  simp only [BitVec.sle_eq_decide, BitVec.slt_eq_decide, decide_eq_true_eq, BitVec.toInt_eq_toNat_cond, BitVec.toNat_ofNat] at h0 h1
  omega

end Cert.Spatial

end
-- ==== Proof.lean ====
/-
  The certificate. `Proof/Kernel` runs the kernel with its values, generic in the floats, and `Proof/KernelIdeal` is the same for the
  idealized program; `Proof/Value` equates what the kernel and the reference compute. Each claim here is one of those, weakened.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_path_lengths
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Adequacy
public import Idealize.ShloMosaic.Init

@[expose] public section

noncomputable section

namespace Cert.Proof

open Idealize.ShloMosaic Idealize.SL.Sem
open Cert

local instance : Kernel.Facts := Kernel.Gen.facts
local instance : KernelIdeal.Facts := KernelIdeal.Gen.facts
local instance : ReferenceIdeal.Facts := ReferenceIdeal.Gen.facts
local instance : Pre_path_lengths.Facts := Pre_path_lengths.Gen.facts

/-- The precondition, of the path lengths laid out in one row: each is below sixteen. -/
theorem row (m : (ℓ : Loc Kernel.nD Kernel.τ Kernel.sig) → Buf (Elt Bits) ℓ) (h : Pre_Kernel m) (d : Dev Kernel.nD)
    (j : Kernel.S16777216.Idx) : (Kernel.Run.npM m d j).toNat < 16 := by
  rw [Kernel.Run.npM_eq]
  exact Spatial.below_of_pre _ _ _ _ (h d) _

/-- The kernel ends without fault, its arguments as they were and every semaphore at zero. -/
theorem frame_p : quiescent_Kernel := fun m ρ hpre =>
  (θ_run Kernel.defs _ _).mono (fun _ h => ⟨fun c => ⟨(h.1 c _ (Kernel.Run.mem_kept Kernel.main_arg0 rfl (by decide))).trans (Kernel.Run.Vend_arg0 m c),
    (h.1 c _ (Kernel.Run.mem_kept Kernel.main_arg1 rfl (by decide))).trans (Kernel.Run.Vend_arg1 m c),
    (h.1 c _ (Kernel.Run.mem_kept Kernel.main_arg2 rfl (by decide))).trans (Kernel.Run.Vend_arg2 m c),
    (h.1 c _ (Kernel.Run.mem_kept Kernel.main_arg3 rfl (by decide))).trans (Kernel.Run.Vend_arg3 m c)⟩, h.2⟩)
    (Kernel.Run.run_main (F := Bits) m ρ (row m hpre))

/-- The precondition, of the path lengths laid out in one row: each is below sixteen. -/
theorem row_ideal (m : (ℓ : Loc KernelIdeal.nD KernelIdeal.τ KernelIdeal.sig) → Buf (Elt Ideal) ℓ) (h : Pre_KernelIdeal m) (d : Dev KernelIdeal.nD)
    (j : KernelIdeal.S16777216.Idx) : (KernelIdeal.Run.npM m d j).toNat < 16 := by
  rw [KernelIdeal.Run.npM_eq]
  exact Spatial.below_of_pre _ _ _ _ (h d) _

/-- The idealized kernel ends without fault, its arguments as they were and every semaphore at zero. -/
theorem frame_pi : quiescent_KernelIdeal := fun m ρ hpre =>
  (θ_run KernelIdeal.defs _ _).mono (fun _ h => ⟨fun c => ⟨(h.1 c _ (KernelIdeal.Run.mem_kept KernelIdeal.main_arg0 rfl (by decide))).trans (KernelIdeal.Run.Vend_arg0 m c),
    (h.1 c _ (KernelIdeal.Run.mem_kept KernelIdeal.main_arg1 rfl (by decide))).trans (KernelIdeal.Run.Vend_arg1 m c),
    (h.1 c _ (KernelIdeal.Run.mem_kept KernelIdeal.main_arg2 rfl (by decide))).trans (KernelIdeal.Run.Vend_arg2 m c),
    (h.1 c _ (KernelIdeal.Run.mem_kept KernelIdeal.main_arg3 rfl (by decide))).trans (KernelIdeal.Run.Vend_arg3 m c)⟩, h.2⟩)
    (KernelIdeal.Run.run_main (F := Ideal) m ρ (row_ideal m hpre))

/-- The reference ends without fault, its arguments as they were; it has no semaphore. -/
theorem frame_ri : quiescent_ReferenceIdeal := fun m ρ _ =>
  (θ_run ReferenceIdeal.defs _ _).mono (fun r h => ⟨fun c => (h c).2, sem_eq_zero_of_no_sems (by decide) r.2⟩) (ReferenceIdeal.Value.run m ρ)

/-- The same, under the kernel's precondition. -/
theorem frame_ri_pre : quiescent_ReferenceIdeal_pre_path_lengths := fun m ρ _ => frame_ri m ρ trivial

/-- The idealized kernel's result: the encoding of its arguments. -/
theorem kernel_result (m : (ℓ : Loc KernelIdeal.nD KernelIdeal.τ KernelIdeal.sig) → Buf (Elt Ideal) ℓ) (h : Pre_KernelIdeal m) (c : Dev KernelIdeal.nD) :
    KernelIdeal.Run.Vend m c (Proc.devRef .tc KernelIdeal.main_v4)
      = Spatial.spatial (m ((c.tc : Thread KernelIdeal.nD KernelIdeal.τ).loc KernelIdeal.main_arg1))
        (m ((c.tc : Thread KernelIdeal.nD KernelIdeal.τ).loc KernelIdeal.main_arg2)) (m ((c.tc : Thread KernelIdeal.nD KernelIdeal.τ).loc KernelIdeal.main_arg3)) := by
  rw [KernelIdeal.Run.Vend_result, KernelIdeal.Run.tabM_eq, KernelIdeal.Run.npM_eq, KernelIdeal.Run.mkM_eq]
  exact Spatial.kernel_eq _ _ _ _ (Spatial.below_of_pre _ _ _ _ (h c))

/-- Kernel and reference end with the same result, the encoding of their common arguments. -/
theorem equal : algebraic_KernelIdeal_ReferenceIdeal := fun m g m' g' hpre hargs =>
  ⟨fun c => Spatial.spatial (m ((c.tc : Thread KernelIdeal.nD KernelIdeal.τ).loc KernelIdeal.main_arg1))
      (m ((c.tc : Thread KernelIdeal.nD KernelIdeal.τ).loc KernelIdeal.main_arg2)) (m ((c.tc : Thread KernelIdeal.nD KernelIdeal.τ).loc KernelIdeal.main_arg3)),
    (θ_run KernelIdeal.defs _ _).mono (fun _ h c =>
      ⟨(h.1 c _ (KernelIdeal.Run.mem_kept KernelIdeal.main_v4 rfl (by decide))).trans (kernel_result m hpre c),
        (h.1 c _ (KernelIdeal.Run.mem_kept KernelIdeal.main_arg0 rfl (by decide))).trans (KernelIdeal.Run.Vend_arg0 m c),
        (h.1 c _ (KernelIdeal.Run.mem_kept KernelIdeal.main_arg1 rfl (by decide))).trans (KernelIdeal.Run.Vend_arg1 m c),
        (h.1 c _ (KernelIdeal.Run.mem_kept KernelIdeal.main_arg2 rfl (by decide))).trans (KernelIdeal.Run.Vend_arg2 m c),
        (h.1 c _ (KernelIdeal.Run.mem_kept KernelIdeal.main_arg3 rfl (by decide))).trans (KernelIdeal.Run.Vend_arg3 m c)⟩)
      (KernelIdeal.Run.run_main (F := Ideal) m g (row_ideal m hpre)),
    (θ_run ReferenceIdeal.defs _ _).mono (fun _ h c => ⟨(h c).1.trans (by
        rw [Spatial.result_eq, (hargs c).2.1, (hargs c).2.2.1, (hargs c).2.2.2]
        exact Spatial.whole_eq _ _ _ (Spatial.below_of_pre _ _ _ _ (hpre c))), (h c).2⟩)
      (ReferenceIdeal.Value.run m' g')⟩

/-- Every claim of the certificate. -/
theorem claim : Cert.Claim :=
  ⟨Kernel.Gen.facts, KernelIdeal.Gen.facts, ReferenceIdeal.Gen.facts, Pre_path_lengths.Gen.facts,
    frame_p, frame_pi, frame_ri, frame_ri_pre, trivial, equal⟩

end Cert.Proof

end
